-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_cst_13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x768x576 : Shape := ⟨3, ![16, 768, 576]⟩
abbrev S1024x13 : Shape := ⟨2, ![1024, 13]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S64x768 : Shape := ⟨2, ![64, 768]⟩
abbrev S768x64 : Shape := ⟨2, ![768, 64]⟩
abbrev S768 : Shape := ⟨1, ![768]⟩
abbrev S16x576x768 : Shape := ⟨3, ![16, 576, 768]⟩
abbrev S16x576x64 : Shape := ⟨3, ![16, 576, 64]⟩
abbrev S1x1x64 : Shape := ⟨3, ![1, 1, 64]⟩
abbrev S_ : Shape := ⟨0, ![]⟩
abbrev S16x576 : Shape := ⟨2, ![16, 576]⟩
abbrev S16x576x1 : Shape := ⟨3, ![16, 576, 1]⟩
abbrev S9216x64 : Shape := ⟨2, ![9216, 64]⟩
abbrev S8192 : Shape := ⟨1, ![8192]⟩
abbrev S8192x1 : Shape := ⟨2, ![8192, 1]⟩
abbrev S13 : Shape := ⟨1, ![13]⟩
abbrev S1x13 : Shape := ⟨2, ![1, 13]⟩
abbrev S8192x13 : Shape := ⟨2, ![8192, 13]⟩
abbrev S13x1024 : Shape := ⟨2, ![13, 1024]⟩
abbrev S8192x1024 : Shape := ⟨2, ![8192, 1024]⟩
abbrev S1x1024 : Shape := ⟨2, ![1, 1024]⟩
abbrev S1024x64 : Shape := ⟨2, ![1024, 64]⟩
abbrev S8192x64 : Shape := ⟨2, ![8192, 64]⟩
abbrev S1x64 : Shape := ⟨2, ![1, 64]⟩
abbrev S9216 : Shape := ⟨1, ![9216]⟩
abbrev S9216x1 : Shape := ⟨2, ![9216, 1]⟩
abbrev S1x8192 : Shape := ⟨2, ![1, 8192]⟩
abbrev S9216x8192 : Shape := ⟨2, ![9216, 8192]⟩
abbrev S64x8192 : Shape := ⟨2, ![64, 8192]⟩

class Facts : Prop where
  transposes_S16x768x576_S16x576x768_0_2_1 : S16x768x576.Transposes [0, 2, 1] S16x576x768
  transposes_S64x768_S768x64_1_0 : S64x768.Transposes [1, 0] S768x64
  bcast_S64_S1x1x64_2 : S64.BroadcastsInDim S1x1x64 (![2] : Fin 1 → Fin S1x1x64.rank)
  bcast_S1x1x64_S16x576x64_0_1_2 : S1x1x64.BroadcastsInDim S16x576x64 (![0, 1, 2] : Fin 3 → Fin S16x576x64.rank)
  reducesTo_S16x576x64_S16x576_d2 : S16x576x64.ReducesTo [2] S16x576
  h_S_ : 0 < S_.numel
  bcast_S16x576_S16x576x1_0_1 : S16x576.BroadcastsInDim S16x576x1 (![0, 1] : Fin 2 → Fin S16x576x1.rank)
  bcast_S_S16x576x1 : S_.BroadcastsInDim S16x576x1 (![] : Fin 0 → Fin S16x576x1.rank)
  bcast_S16x576x1_S16x576x64_0_1_2 : S16x576x1.BroadcastsInDim S16x576x64 (![0, 1, 2] : Fin 3 → Fin S16x576x64.rank)
  shapeCasts_S16x576x64_S9216x64 : S16x576x64.ShapeCasts S9216x64
  bcast_S8192_S8192x1_0 : S8192.BroadcastsInDim S8192x1 (![0] : Fin 1 → Fin S8192x1.rank)
  bcast_S_S13 : S_.BroadcastsInDim S13 (![] : Fin 0 → Fin S13.rank)
  bcast_S13_S1x13_1 : S13.BroadcastsInDim S1x13 (![1] : Fin 1 → Fin S1x13.rank)
  bcast_S8192x1_S8192x13_0_1 : S8192x1.BroadcastsInDim S8192x13 (![0, 1] : Fin 2 → Fin S8192x13.rank)
  bcast_S1x13_S8192x13_0_1 : S1x13.BroadcastsInDim S8192x13 (![0, 1] : Fin 2 → Fin S8192x13.rank)
  bcast_S_S8192x13 : S_.BroadcastsInDim S8192x13 (![] : Fin 0 → Fin S8192x13.rank)
  transposes_S1024x13_S13x1024_1_0 : S1024x13.Transposes [1, 0] S13x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S1024x1024_S1024x1024_1_0 : S1024x1024.Transposes [1, 0] S1024x1024
  transposes_S64x1024_S1024x64_1_0 : S64x1024.Transposes [1, 0] S1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  reducesTo_S9216x64_S9216_d1 : S9216x64.ReducesTo [1] S9216
  bcast_S9216_S9216x1_0 : S9216.BroadcastsInDim S9216x1 (![0] : Fin 1 → Fin S9216x1.rank)
  bcast_S8192_S1x8192_1 : S8192.BroadcastsInDim S1x8192 (![1] : Fin 1 → Fin S1x8192.rank)
  bcast_S9216x1_S9216x8192_0_1 : S9216x1.BroadcastsInDim S9216x8192 (![0, 1] : Fin 2 → Fin S9216x8192.rank)
  bcast_S1x8192_S9216x8192_0_1 : S1x8192.BroadcastsInDim S9216x8192 (![0, 1] : Fin 2 → Fin S9216x8192.rank)
  transposes_S8192x64_S64x8192_1_0 : S8192x64.Transposes [1, 0] S64x8192
  bcast_S_S9216x8192 : S_.BroadcastsInDim S9216x8192 (![] : Fin 0 → Fin S9216x8192.rank)
  reducesTo_S9216x8192_S9216_d1 : S9216x8192.ReducesTo [1] S9216
  natLt_1_32 : 1 < 32
  bcast_S_S9216 : S_.BroadcastsInDim S9216 (![] : Fin 0 → Fin S9216.rank)
  dot_S16x576x768_S768x64_S16x576x64_2_0_01_1_n_n_wf : DotDims.WF S16x576x768 S768x64 S16x576x64 [2] [0] [0, 1] [1] [] []
  dot_S8192x13_S13x1024_S8192x1024_1_0_0_1_n_n_wf : DotDims.WF S8192x13 S13x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x64_S8192x64_1_0_0_1_n_n_wf : DotDims.WF S8192x1024 S1024x64 S8192x64 [1] [0] [0] [1] [] []
  dot_S9216x64_S64x8192_S9216x8192_1_0_0_1_n_n_wf : DotDims.WF S9216x64 S64x8192 S9216x8192 [1] [0] [0] [1] [] []

variable [Facts]

def dot_S16x576x768_S768x64_S16x576x64_2_0_01_1_n_n : DotDims S16x576x768 S768x64 S16x576x64 where
  lhsContracting := [2]
  rhsContracting := [0]
  lhsNonContracting := [0, 1]
  rhsNonContracting := [1]
  lhsBatch := []
  rhsBatch := []
  wf := dot_S16x576x768_S768x64_S16x576x64_2_0_01_1_n_n_wf
def dot_S8192x13_S13x1024_S8192x1024_1_0_0_1_n_n : DotDims S8192x13 S13x1024 S8192x1024 where
  lhsContracting := [1]
  rhsContracting := [0]
  lhsNonContracting := [0]
  rhsNonContracting := [1]
  lhsBatch := []
  rhsBatch := []
  wf := dot_S8192x13_S13x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S9216x64_S64x8192_S9216x8192_1_0_0_1_n_n : DotDims S9216x64 S64x8192 S9216x8192 where
  lhsContracting := [1]
  rhsContracting := [0]
  lhsNonContracting := [0]
  rhsNonContracting := [1]
  lhsBatch := []
  rhsBatch := []
  wf := dot_S9216x64_S64x8192_S9216x8192_1_0_0_1_n_n_wf
def fn_norm {F : FTy → Type} [FloatOps F] (arg0 : FVec F S16x576x64 .f32) : FVec F S16x576x1 .f32 :=
  let v0 : FVec F S16x576x64 .f32 := mulf arg0 arg0
  let cst : FVec F S_ .f32 := constant S_ .f32 0x00000000#32
  let v1 : FVec F S16x576 .f32 := (fun x v => Host.reduceAdd x v reducesTo_S16x576x64_S16x576_d2 h_S_) v0 cst
  let v2 : FVec F S16x576x1 .f32 := broadcastInDim S16x576x1 ![0, 1] bcast_S16x576_S16x576x1_0_1 v1
  let v3 : FVec F S16x576x1 .f32 := Host.sqrt v2
  v3

def fn_relu {F : FTy → Type} [FloatOps F] (arg0 : FVec F S8192x1024 .f32) : FVec F S8192x1024 .f32 :=
  let cst : FVec F S_ .f32 := constant S_ .f32 0x00000000#32
  let v0 : FVec F S8192x1024 .f32 := broadcastInDim S8192x1024 ![] bcast_S_S8192x1024 cst
  let v1 : FVec F S8192x1024 .f32 := maximumf arg0 v0
  v1

def fn_norm_0 {F : FTy → Type} [FloatOps F] (arg0 : FVec F S8192x64 .f32) : FVec F S8192x1 .f32 :=
  let v0 : FVec F S8192x64 .f32 := mulf arg0 arg0
  let cst : FVec F S_ .f32 := constant S_ .f32 0x00000000#32
  let v1 : FVec F S8192 .f32 := (fun x v => Host.reduceAdd x v reducesTo_S8192x64_S8192_d1 h_S_) v0 cst
  let v2 : FVec F S8192x1 .f32 := broadcastInDim S8192x1 ![0] bcast_S8192_S8192x1_0 v1
  let v3 : FVec F S8192x1 .f32 := Host.sqrt v2
  v3

def fn_part3 {F : FTy → Type} [FloatOps F] (main_v58 : FVec F S9216x8192 .f32) (main_v62 : FVec F S9216x8192 .f32) : IVec S9216 1 :=
  let main_v63 : FVec F S9216x8192 .f32 := subf main_v58 main_v62
  let main_cst_7 : FVec F S_ .f32 := constant S_ .f32 0x7F800000#32
  let main_v64 : FVec F S9216 .f32 := (fun x v => Host.reduce FloatOps.minimumf x v reducesTo_S9216x8192_S9216_d1 h_S_) main_v63 main_cst_7
  let main_v65 : FVec F S9216x1 .f32 := broadcastInDim S9216x1 ![0] bcast_S9216_S9216x1_0 main_v64
  let main_v66 : FVec F S9216x8192 .f32 := broadcastInDim S9216x8192 ![0, 1] bcast_S9216x1_S9216x8192_0_1 main_v65
  let main_v67 : IVec S9216x8192 1 := cmpf .oeq main_v63 main_v66
  let main_v68 : IVec S9216x8192 32 := (extui 32 · natLt_1_32) main_v67
  let main_c_8 : IVec S_ 32 := constantI S_ 32 0#32
  let main_v69 : IVec S9216 32 := (fun x v => Host.reduce IntOp.addi x v reducesTo_S9216x8192_S9216_d1 h_S_) main_v68 main_c_8
  let main_c_9 : IVec S_ 32 := constantI S_ 32 1#32
  let main_v70 : IVec S9216 32 := broadcastInDim S9216 ![] bcast_S_S9216 main_c_9
  let main_v71 : IVec S9216 1 := cmpi .eq main_v69 main_v70
  main_v71

def fn_part2 {F : FTy → Type} [FloatOps F] (main_v11 : FVec F S9216x64 .f32) (main_v41 : FVec F S8192x64 .f32) (main_v42 : FVec F S1x64 .f32) : IVec S9216 1 :=
  let main_v43 : FVec F S8192x64 .f32 := broadcastInDim S8192x64 ![0, 1] bcast_S1x64_S8192x64_0_1 main_v42
  let main_v44 : FVec F S8192x64 .f32 := addf main_v41 main_v43
  let main_v45 : FVec F S8192x1 .f32 := fn_norm_0 (F := F) main_v44
  let main_cst_3 : FVec F S_ .f32 := constant S_ .f32 0x358637BD#32
  let main_v46 : FVec F S8192x1 .f32 := broadcastInDim S8192x1 ![] bcast_S_S8192x1 main_cst_3
  let main_v47 : FVec F S8192x1 .f32 := addf main_v45 main_v46
  let main_v48 : FVec F S8192x64 .f32 := broadcastInDim S8192x64 ![0, 1] bcast_S8192x1_S8192x64_0_1 main_v47
  let main_v49 : FVec F S8192x64 .f32 := Host.divf main_v44 main_v48
  let main_v50 : FVec F S9216x64 .f32 := mulf main_v11 main_v11
  let main_cst_4 : FVec F S_ .f32 := constant S_ .f32 0x00000000#32
  let main_v51 : FVec F S9216 .f32 := (fun x v => Host.reduceAdd x v reducesTo_S9216x64_S9216_d1 h_S_) main_v50 main_cst_4
  let main_v52 : FVec F S9216x1 .f32 := broadcastInDim S9216x1 ![0] bcast_S9216_S9216x1_0 main_v51
  let main_v53 : FVec F S8192x64 .f32 := mulf main_v49 main_v49
  let main_cst_5 : FVec F S_ .f32 := constant S_ .f32 0x00000000#32
  let main_v54 : FVec F S8192 .f32 := (fun x v => Host.reduceAdd x v reducesTo_S8192x64_S8192_d1 h_S_) main_v53 main_cst_5
  let main_v55 : FVec F S1x8192 .f32 := broadcastInDim S1x8192 ![1] bcast_S8192_S1x8192_1 main_v54
  let main_v56 : FVec F S9216x8192 .f32 := broadcastInDim S9216x8192 ![0, 1] bcast_S9216x1_S9216x8192_0_1 main_v52
  let main_v57 : FVec F S9216x8192 .f32 := broadcastInDim S9216x8192 ![0, 1] bcast_S1x8192_S9216x8192_0_1 main_v55
  let main_v58 : FVec F S9216x8192 .f32 := addf main_v56 main_v57
  let main_v59 : FVec F S64x8192 .f32 := (transpose S64x8192 [1, 0] · transposes_S8192x64_S64x8192_1_0) main_v49
  let main_v60 : FVec F S9216x8192 .f32 := (fun l r => Host.dotGeneral dot_S9216x64_S64x8192_S9216x8192_1_0_0_1_n_n none l r) main_v11 main_v59
  let main_cst_6 : FVec F S_ .f32 := constant S_ .f32 0x40000000#32
  let main_v61 : FVec F S9216x8192 .f32 := broadcastInDim S9216x8192 ![] bcast_S_S9216x8192 main_cst_6
  let main_v62 : FVec F S9216x8192 .f32 := mulf main_v61 main_v60
  fn_part3 (F := F) main_v58 main_v62

def fn_part1 {F : FTy → Type} [FloatOps F] (main_arg1 : FVec F S1024x13 .f32) (main_arg2 : FVec F S1024 .f32) (main_arg3 : FVec F S1024x1024 .f32) (main_arg4 : FVec F S1024 .f32) (main_arg5 : FVec F S64x1024 .f32) (main_arg6 : FVec F S64 .f32) (main_v11 : FVec F S9216x64 .f32) (main_v13 : IVec S8192x1 32) (main_v18 : IVec S13 32) (main_v19 : IVec S13 32) : IVec S9216 1 :=
  let main_v20 : IVec S13 32 := Host.shli main_v19 main_v18
  let main_v21 : IVec S1x13 32 := broadcastInDim S1x13 ![1] bcast_S13_S1x13_1 main_v20
  let main_v22 : IVec S8192x13 32 := broadcastInDim S8192x13 ![0, 1] bcast_S8192x1_S8192x13_0_1 main_v13
  let main_v23 : IVec S8192x13 32 := broadcastInDim S8192x13 ![0, 1] bcast_S1x13_S8192x13_0_1 main_v21
  let main_v24 : IVec S8192x13 32 := andi main_v22 main_v23
  let main_c_2 : IVec S_ 32 := constantI S_ 32 0#32
  let main_v25 : IVec S8192x13 32 := broadcastInDim S8192x13 ![] bcast_S_S8192x13 main_c_2
  let main_v26 : IVec S8192x13 1 := cmpi .sgt main_v24 main_v25
  let main_v27 : FVec F S8192x13 .f32 := uitofp .f32 main_v26
  let main_v28 : FVec F S13x1024 .f32 := (transpose S13x1024 [1, 0] · transposes_S1024x13_S13x1024_1_0) main_arg1
  let main_v29 : FVec F S8192x1024 .f32 := (fun l r => Host.dotGeneral dot_S8192x13_S13x1024_S8192x1024_1_0_0_1_n_n none l r) main_v27 main_v28
  let main_v30 : FVec F S1x1024 .f32 := broadcastInDim S1x1024 ![1] bcast_S1024_S1x1024_1 main_arg2
  let main_v31 : FVec F S8192x1024 .f32 := broadcastInDim S8192x1024 ![0, 1] bcast_S1x1024_S8192x1024_0_1 main_v30
  let main_v32 : FVec F S8192x1024 .f32 := addf main_v29 main_v31
  let main_v33 : FVec F S8192x1024 .f32 := fn_relu (F := F) main_v32
  let main_v34 : FVec F S1024x1024 .f32 := (transpose S1024x1024 [1, 0] · transposes_S1024x1024_S1024x1024_1_0) main_arg3
  let main_v35 : FVec F S8192x1024 .f32 := (fun l r => Host.dotGeneral dot_S8192x1024_S1024x1024_S8192x1024_1_0_0_1_n_n none l r) main_v33 main_v34
  let main_v36 : FVec F S1x1024 .f32 := broadcastInDim S1x1024 ![1] bcast_S1024_S1x1024_1 main_arg4
  let main_v37 : FVec F S8192x1024 .f32 := broadcastInDim S8192x1024 ![0, 1] bcast_S1x1024_S8192x1024_0_1 main_v36
  let main_v38 : FVec F S8192x1024 .f32 := addf main_v35 main_v37
  let main_v39 : FVec F S8192x1024 .f32 := fn_relu (F := F) main_v38
  let main_v40 : FVec F S1024x64 .f32 := (transpose S1024x64 [1, 0] · transposes_S64x1024_S1024x64_1_0) main_arg5
  let main_v41 : FVec F S8192x64 .f32 := (fun l r => Host.dotGeneral dot_S8192x1024_S1024x64_S8192x64_1_0_0_1_n_n none l r) main_v39 main_v40
  let main_v42 : FVec F S1x64 .f32 := broadcastInDim S1x64 ![1] bcast_S64_S1x64_1 main_arg6
  fn_part2 (F := F) main_v11 main_v41 main_v42

def fn {F : FTy → Type} [FloatOps F] (main_arg0 : FVec F S16x768x576 .f32) (main_arg1 : FVec F S1024x13 .f32) (main_arg2 : FVec F S1024 .f32) (main_arg3 : FVec F S1024x1024 .f32) (main_arg4 : FVec F S1024 .f32) (main_arg5 : FVec F S64x1024 .f32) (main_arg6 : FVec F S64 .f32) (main_arg7 : FVec F S64x768 .f32) (main_arg8 : FVec F S64 .f32) (main_arg9 : FVec F S768x64 .f32) (main_arg10 : FVec F S768 .f32) : IVec S9216 1 :=
  let main_v0 : FVec F S16x576x768 .f32 := (transpose S16x576x768 [0, 2, 1] · transposes_S16x768x576_S16x576x768_0_2_1) main_arg0
  let main_v1 : FVec F S768x64 .f32 := (transpose S768x64 [1, 0] · transposes_S64x768_S768x64_1_0) main_arg7
  let main_v2 : FVec F S16x576x64 .f32 := (fun l r => Host.dotGeneral dot_S16x576x768_S768x64_S16x576x64_2_0_01_1_n_n none l r) main_v0 main_v1
  let main_v3 : FVec F S1x1x64 .f32 := broadcastInDim S1x1x64 ![2] bcast_S64_S1x1x64_2 main_arg8
  let main_v4 : FVec F S16x576x64 .f32 := broadcastInDim S16x576x64 ![0, 1, 2] bcast_S1x1x64_S16x576x64_0_1_2 main_v3
  let main_v5 : FVec F S16x576x64 .f32 := addf main_v2 main_v4
  let main_v6 : FVec F S16x576x1 .f32 := fn_norm (F := F) main_v5
  let main_cst : FVec F S_ .f32 := constant S_ .f32 0x358637BD#32
  let main_v7 : FVec F S16x576x1 .f32 := broadcastInDim S16x576x1 ![] bcast_S_S16x576x1 main_cst
  let main_v8 : FVec F S16x576x1 .f32 := addf main_v6 main_v7
  let main_v9 : FVec F S16x576x64 .f32 := broadcastInDim S16x576x64 ![0, 1, 2] bcast_S16x576x1_S16x576x64_0_1_2 main_v8
  let main_v10 : FVec F S16x576x64 .f32 := Host.divf main_v5 main_v9
  let main_v11 : FVec F S9216x64 .f32 := shapeCast S9216x64 main_v10 shapeCasts_S16x576x64_S9216x64
  let main_v12 : IVec S8192 32 := iotaInDim S8192 32 0
  let main_v13 : IVec S8192x1 32 := broadcastInDim S8192x1 ![0] bcast_S8192_S8192x1_0 main_v12
  let main_v14 : IVec S13 32 := iotaInDim S13 32 0
  let main_c : IVec S_ 32 := constantI S_ 32 4294967295#32
  let main_v15 : IVec S13 32 := broadcastInDim S13 ![] bcast_S_S13 main_c
  let main_v16 : IVec S13 32 := muli main_v15 main_v14
  let main_c_0 : IVec S_ 32 := constantI S_ 32 12#32
  let main_v17 : IVec S13 32 := broadcastInDim S13 ![] bcast_S_S13 main_c_0
  let main_v18 : IVec S13 32 := addi main_v17 main_v16
  let main_c_1 : IVec S_ 32 := constantI S_ 32 1#32
  let main_v19 : IVec S13 32 := broadcastInDim S13 ![] bcast_S_S13 main_c_1
  fn_part1 (F := F) main_arg1 main_arg2 main_arg3 main_arg4 main_arg5 main_arg6 main_v11 main_v13 main_v18 main_v19
-- ==== Kernel.lean ====
abbrev S16x768x576 : Shape := ⟨3, ![16, 768, 576]⟩
abbrev S1024x13 : Shape := ⟨2, ![1024, 13]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S64x768 : Shape := ⟨2, ![64, 768]⟩
abbrev S768x64 : Shape := ⟨2, ![768, 64]⟩
abbrev S768 : Shape := ⟨1, ![768]⟩
abbrev S_ : Shape := ⟨0, ![]⟩
abbrev S128x1024 : Shape := ⟨2, ![128, 1024]⟩
abbrev S13x1024 : Shape := ⟨2, ![13, 1024]⟩
abbrev S1 : Shape := ⟨1, ![1]⟩
abbrev S1x1024 : Shape := ⟨2, ![1, 1024]⟩
abbrev S1x64 : Shape := ⟨2, ![1, 64]⟩
abbrev S16x576x768 : Shape := ⟨3, ![16, 576, 768]⟩
abbrev S16x1x576 : Shape := ⟨3, ![16, 1, 576]⟩
abbrev S1x768x576 : Shape := ⟨3, ![1, 768, 576]⟩
abbrev S1x576x768 : Shape := ⟨3, ![1, 576, 768]⟩
abbrev S1x1x576 : Shape := ⟨3, ![1, 1, 576]⟩
abbrev S64x8192 : Shape := ⟨2, ![64, 8192]⟩
abbrev S1x8192 : Shape := ⟨2, ![1, 8192]⟩
abbrev S1024x128 : Shape := ⟨2, ![1024, 128]⟩
abbrev S1024x64 : Shape := ⟨2, ![1024, 64]⟩
abbrev S1024x1 : Shape := ⟨2, ![1024, 1]⟩
abbrev S8192 : Shape := ⟨1, ![8192]⟩
abbrev S768x576 : Shape := ⟨2, ![768, 576]⟩
abbrev S576x768 : Shape := ⟨2, ![576, 768]⟩
abbrev S576x64 : Shape := ⟨2, ![576, 64]⟩
abbrev S576 : Shape := ⟨1, ![576]⟩
abbrev S576x1 : Shape := ⟨2, ![576, 1]⟩
abbrev S576x8192 : Shape := ⟨2, ![576, 8192]⟩
abbrev S16x576 : Shape := ⟨2, ![16, 576]⟩

abbrev nBuf : Space → Nat
  | .hbm => 25
  | .vmem => 16
  | .smem => 0
  | _ => 0

abbrev bufTy : (tb : Table) → Fin (tcTables nBuf tb) → BufTy
  | .hbm, ⟨0, _⟩ => ⟨S16x768x576, .f32⟩
  | .hbm, ⟨1, _⟩ => ⟨S1024x13, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S64, .f32⟩
  | .hbm, ⟨7, _⟩ => ⟨S64x768, .f32⟩
  | .hbm, ⟨8, _⟩ => ⟨S64, .f32⟩
  | .hbm, ⟨9, _⟩ => ⟨S768x64, .f32⟩
  | .hbm, ⟨10, _⟩ => ⟨S768, .f32⟩
  | .hbm, ⟨11, _⟩ => ⟨S_, .f32⟩
  | .hbm, ⟨12, _⟩ => ⟨S128x1024, .f32⟩
  | .hbm, ⟨13, _⟩ => ⟨S13x1024, .f32⟩
  | .hbm, ⟨14, _⟩ => ⟨S_, .i32⟩
  | .hbm, ⟨15, _⟩ => ⟨S1, .i32⟩
  | .hbm, ⟨16, _⟩ => ⟨S128x1024, .f32⟩
  | .hbm, ⟨17, _⟩ => ⟨S1x1024, .f32⟩
  | .hbm, ⟨18, _⟩ => ⟨S1x1024, .f32⟩
  | .hbm, ⟨19, _⟩ => ⟨S1x64, .f32⟩
  | .hbm, ⟨20, _⟩ => ⟨S1x64, .f32⟩
  | .hbm, ⟨21, _⟩ => ⟨S16x576x768, .f32⟩
  | .hbm, ⟨22, _⟩ => ⟨S16x1x576, .i32⟩
  | .hbm, ⟨23, _⟩ => ⟨S16x576, .i32⟩
  | .hbm, ⟨24, _⟩ => ⟨S_, .f32⟩
  | .local _ .vmem, ⟨0, _⟩ => ⟨S128x1024, .f32⟩
  | .local _ .vmem, ⟨1, _⟩ => ⟨S1x1024, .f32⟩
  | .local _ .vmem, ⟨2, _⟩ => ⟨S1024x1024, .f32⟩
  | .local _ .vmem, ⟨3, _⟩ => ⟨S1x1024, .f32⟩
  | .local _ .vmem, ⟨4, _⟩ => ⟨S64x1024, .f32⟩
  | .local _ .vmem, ⟨5, _⟩ => ⟨S1x64, .f32⟩
  | .local _ .vmem, ⟨6, _⟩ => ⟨S1x768x576, .f32⟩
  | .local _ .vmem, ⟨7, _⟩ => ⟨S1x768x576, .f32⟩
  | .local _ .vmem, ⟨8, _⟩ => ⟨S64x768, .f32⟩
  | .local _ .vmem, ⟨9, _⟩ => ⟨S1x64, .f32⟩
  | .local _ .vmem, ⟨10, _⟩ => ⟨S1x576x768, .f32⟩
  | .local _ .vmem, ⟨11, _⟩ => ⟨S1x576x768, .f32⟩
  | .local _ .vmem, ⟨12, _⟩ => ⟨S1x1x576, .i32⟩
  | .local _ .vmem, ⟨13, _⟩ => ⟨S1x1x576, .i32⟩
  | .local _ .vmem, ⟨14, _⟩ => ⟨S64x8192, .f32⟩
  | .local _ .vmem, ⟨15, _⟩ => ⟨S1x8192, .f32⟩
  | _, _ => ⟨S16x768x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev main_cst_0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c8_i32 : BitVec 32 := 8#32
  let v36 : BitVec 32 := Scalar.addi c0_i32_21 c8_i32
  let c1_i32 : BitVec 32 := 1#32
  ⟨c0_i32_21, v36, c1_i32⟩
def k0_off1 (k0_t1 : Fin k0_t1_loop.trips) : Fin 2 → Nat :=
  let c0_54 : Index := 0#32
  let c0_i32_21 : BitVec 32 := 0#32
  let c1_i32 : BitVec 32 := 1#32
  let arg14 : BitVec 32 := Scf.iv c0_i32_21 c1_i32 k0_t1
  let c1024_i32_53 : BitVec 32 := 1024#32
  let v97 : BitVec 32 := Scalar.muli arg14 c1024_i32_53
  let v98 : Index := Scalar.indexCast v97
  ![0, v98.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x768x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x576x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x576 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x768x576 : Shape := ⟨3, ![16, 768, 576]⟩
abbrev S1024x13 : Shape := ⟨2, ![1024, 13]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S64x768 : Shape := ⟨2, ![64, 768]⟩
abbrev S768x64 : Shape := ⟨2, ![768, 64]⟩
abbrev S768 : Shape := ⟨1, ![768]⟩
abbrev S16x576x768 : Shape := ⟨3, ![16, 576, 768]⟩
abbrev S16x576x64 : Shape := ⟨3, ![16, 576, 64]⟩
abbrev S1x1x64 : Shape := ⟨3, ![1, 1, 64]⟩
abbrev S8192 : Shape := ⟨1, ![8192]⟩
abbrev S8192x1 : Shape := ⟨2, ![8192, 1]⟩
abbrev S13 : Shape := ⟨1, ![13]⟩
abbrev S_ : Shape := ⟨0, ![]⟩
abbrev S1x13 : Shape := ⟨2, ![1, 13]⟩
abbrev S8192x13 : Shape := ⟨2, ![8192, 13]⟩
abbrev S13x1024 : Shape := ⟨2, ![13, 1024]⟩
abbrev S8192x1024 : Shape := ⟨2, ![8192, 1024]⟩
abbrev S1x1024 : Shape := ⟨2, ![1, 1024]⟩
abbrev S1024x64 : Shape := ⟨2, ![1024, 64]⟩
abbrev S8192x64 : Shape := ⟨2, ![8192, 64]⟩
abbrev S1x64 : Shape := ⟨2, ![1, 64]⟩
abbrev S16x576 : Shape := ⟨2, ![16, 576]⟩
abbrev S16x576x1 : Shape := ⟨3, ![16, 576, 1]⟩
abbrev S9216x64 : Shape := ⟨2, ![9216, 64]⟩
abbrev S9216 : Shape := ⟨1, ![9216]⟩
abbrev S9216x1 : Shape := ⟨2, ![9216, 1]⟩
abbrev S1x8192 : Shape := ⟨2, ![1, 8192]⟩
abbrev S9216x8192 : Shape := ⟨2, ![9216, 8192]⟩
abbrev S64x8192 : Shape := ⟨2, ![64, 8192]⟩
abbrev S1x1x768 : Shape := ⟨3, ![1, 1, 768]⟩
abbrev S16x1x1 : Shape := ⟨3, ![16, 1, 1]⟩

abbrev nBuf : Space → Nat
  | .hbm => 138
  | .vmem => 0
  | .smem => 0
  | _ => 0

abbrev hbmTy0_0 (i : Nat) : BufTy := match i % 128 with
  | 0 => ⟨S16x768x576, .f32⟩
  | 1 => ⟨S1024x13, .f32⟩
  | 2 => ⟨S1024, .f32⟩
  | 3 => ⟨S1024x1024, .f32⟩
  | 4 => ⟨S1024, .f32⟩
  | 5 => ⟨S64x1024, .f32⟩
  | 6 => ⟨S64, .f32⟩
  | 7 => ⟨S64x768, .f32⟩
  | 8 => ⟨S64, .f32⟩
  | 9 => ⟨S768x64, .f32⟩
  | 10 => ⟨S768, .f32⟩
  | 11 => ⟨S16x576x768, .f32⟩
  | 12 => ⟨S768x64, .f32⟩
  | 13 => ⟨S16x576x64, .f32⟩
  | 14 => ⟨S1x1x64, .f32⟩
  | 15 => ⟨S16x576x64, .f32⟩
  | 16 => ⟨S16x576x64, .f32⟩
  | 17 => ⟨S8192, .i32⟩
  | 18 => ⟨S8192x1, .i32⟩
  | 19 => ⟨S13, .i32⟩
  | 20 => ⟨S_, .i32⟩
  | 21 => ⟨S13, .i32⟩
  | 22 => ⟨S13, .i32⟩
  | 23 => ⟨S_, .i32⟩
  | 24 => ⟨S13, .i32⟩
  | 25 => ⟨S13, .i32⟩
  | 26 => ⟨S_, .i32⟩
  | 27 => ⟨S13, .i32⟩
  | 28 => ⟨S13, .i32⟩
  | 29 => ⟨S1x13, .i32⟩
  | 30 => ⟨S8192x13, .i32⟩
  | 31 => ⟨S8192x13, .i32⟩
  | 32 => ⟨S8192x13, .i32⟩
  | 33 => ⟨S_, .i32⟩
  | 34 => ⟨S8192x13, .i32⟩
  | 35 => ⟨S8192x13, .i1⟩
  | 36 => ⟨S8192x13, .f32⟩
  | 37 => ⟨S13x1024, .f32⟩
  | 38 => ⟨S8192x1024, .f32⟩
  | 39 => ⟨S1x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S1024x1024, .f32⟩
  | 46 => ⟨S8192x1024, .f32⟩
  | 47 => ⟨S1x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S1024x64, .f32⟩
  | 54 => ⟨S8192x64, .f32⟩
  | 55 => ⟨S1x64, .f32⟩
  | 56 => ⟨S8192x64, .f32⟩
  | 57 => ⟨S8192x64, .f32⟩
  | 58 => ⟨S16x576x64, .f32⟩
  | 59 => ⟨S_, .f32⟩
  | 60 => ⟨S16x576, .f32⟩
  | 61 => ⟨S16x576x1, .f32⟩
  | 62 => ⟨S16x576x1, .f32⟩
  | 63 => ⟨S_, .f32⟩
  | 64 => ⟨S16x576x1, .f32⟩
  | 65 => ⟨S16x576x1, .f32⟩
  | 66 => ⟨S16x576x64, .f32⟩
  | 67 => ⟨S16x576x64, .f32⟩
  | 68 => ⟨S8192x64, .f32⟩
  | 69 => ⟨S_, .f32⟩
  | 70 => ⟨S8192, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x64, .f32⟩
  | 77 => ⟨S8192x64, .f32⟩
  | 78 => ⟨S9216x64, .f32⟩
  | 79 => ⟨S9216x64, .f32⟩
  | 80 => ⟨S_, .f32⟩
  | 81 => ⟨S9216, .f32⟩
  | 82 => ⟨S9216x1, .f32⟩
  | 83 => ⟨S8192x64, .f32⟩
  | 84 => ⟨S_, .f32⟩
  | 85 => ⟨S8192, .f32⟩
  | 86 => ⟨S1x8192, .f32⟩
  | 87 => ⟨S9216x8192, .f32⟩
  | 88 => ⟨S9216x8192, .f32⟩
  | 89 => ⟨S9216x8192, .f32⟩
  | 90 => ⟨S64x8192, .f32⟩
  | 91 => ⟨S9216x8192, .f32⟩
  | 92 => ⟨S_, .f32⟩
  | 93 => ⟨S9216x8192, .f32⟩
  | 94 => ⟨S9216x8192, .f32⟩
  | 95 => ⟨S9216x8192, .f32⟩
  | 96 => ⟨S9216x8192, .f32⟩
  | 97 => ⟨S_, .f32⟩
  | 98 => ⟨S9216x8192, .f32⟩
  | 99 => ⟨S9216x8192, .f32⟩
  | 100 => ⟨S_, .f32⟩
  | 101 => ⟨S9216, .f32⟩
  | 102 => ⟨S_, .f32⟩
  | 103 => ⟨S9216, .f32⟩
  | 104 => ⟨S9216, .f32⟩
  | 105 => ⟨S9216x1, .f32⟩
  | 106 => ⟨S9216x8192, .f32⟩
  | 107 => ⟨S9216x8192, .f32⟩
  | 108 => ⟨S9216x8192, .f32⟩
  | 109 => ⟨S_, .f32⟩
  | 110 => ⟨S9216, .f32⟩
  | 111 => ⟨S9216x1, .f32⟩
  | 112 => ⟨S9216x8192, .f32⟩
  | 113 => ⟨S9216x8192, .f32⟩
  | 114 => ⟨S9216x8192, .i32⟩
  | 115 => ⟨S_, .f32⟩
  | 116 => ⟨S_, .i32⟩
  | 117 => ⟨S9216, .f32⟩
  | 118 => ⟨S9216, .i32⟩
  | 119 => ⟨S9216x64, .f32⟩
  | 120 => ⟨S16x576x64, .f32⟩
  | 121 => ⟨S64x768, .f32⟩
  | 122 => ⟨S16x576x768, .f32⟩
  | 123 => ⟨S1x1x768, .f32⟩
  | 124 => ⟨S16x576x768, .f32⟩
  | 125 => ⟨S16x576x768, .f32⟩
  | 126 => ⟨S16x576, .i32⟩
  | 127 => ⟨S_, .f32⟩
  | _ => ⟨S16x768x576, .f32⟩

abbrev hbmTy0_1 (i : Nat) : BufTy := match i % 128 with
  | 0 => ⟨S16x1x1, .f32⟩
  | 1 => ⟨S_, .f32⟩
  | 2 => ⟨S16x1x1, .f32⟩
  | 3 => ⟨S16x1x1, .f32⟩
  | 4 => ⟨S16x576x768, .f32⟩
  | 5 => ⟨S16x576x768, .f32⟩
  | 6 => ⟨S16x576x768, .f32⟩
  | 7 => ⟨S16x576x768, .f32⟩
  | 8 => ⟨S16x576x768, .f32⟩
  | 9 => ⟨S_, .f32⟩
  | _ => ⟨S16x768x576, .f32⟩

abbrev hbmTy (i : Nat) : BufTy := match i / 128 with
  | 0 => hbmTy0_0 i
  | 1 => hbmTy0_1 i
  | _ => ⟨S16x768x576, .f32⟩

abbrev bufTy : (tb : Table) → Fin (tcTables nBuf tb) → BufTy
  | .hbm, ⟨i, _⟩ => hbmTy i
  | _, _ => ⟨S16x768x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v39 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call3_v0 : Ref sig .tc := ⟨.hbm, 68, rfl⟩
abbrev main_call3_cst : Ref sig .tc := ⟨.hbm, 69, rfl⟩
abbrev main_call3_v1 : Ref sig .tc := ⟨.hbm, 70, rfl⟩
abbrev main_call3_v2 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_7 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_10 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call4_v0 : Ref sig .tc := ⟨.hbm, 114, rfl⟩
abbrev main_call4_cst : Ref sig .tc := ⟨.hbm, 115, rfl⟩
abbrev main_call4_c : Ref sig .tc := ⟨.hbm, 116, rfl⟩
abbrev main_call4_v1_0 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_11 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_13 : Ref sig .tc := ⟨.hbm, 137, rfl⟩

abbrev nD : Nat := 1
abbrev τ : Topo := Topo.v7x

variable {F : FTy → Type} [FloatOps F]
-- ==== Proof.Vq.Spec.lean ====
/- The extended-real mathematics of the quantiser: every normalised vector is finite, the two spellings of the
   squared distance agree on finite vectors, and the softmax of the negated distances has its largest entry where
   the distances have their smallest. -/
module

public import Idealize.ShloMosaic.PureOps.Ideal.Laws
public import Idealize.ShloMosaic.Lib.IdealHost

@[expose] public section

noncomputable section

namespace Cert.Vq

open Idealize.ShloMosaic

/-- The small constant the norms are shifted by. -/
def eps : EReal := Ideal.ofBits .f32 0x358637BD#32

/-- A vector divided by its shifted Euclidean norm. -/
def nrm {n : ℕ} (v : Fin n → EReal) (d : Fin n) : EReal :=
  Ideal.div (v d) (Ideal.sqrt (∑ e, v e * v e) + eps)

/-- The squared distance as the plain mathematics spells it. -/
def dist {n : ℕ} (h e : Fin n → EReal) : EReal :=
  ((∑ d, h d * h d) + ∑ d, e d * e d) - 2 * ∑ d, h d * e d

/-- `k` is the first position at which `f` is least. -/
def FirstLeast {n : ℕ} (f : Fin n → EReal) (k : Fin n) : Prop :=
  (∀ r, f k ≤ f r) ∧ ∀ r < k, f k < f r

/-- `k` is the first position at which `f` is greatest. -/
def FirstMost {n : ℕ} (f : Fin n → EReal) (k : Fin n) : Prop :=
  (∀ r, f r ≤ f k) ∧ ∀ r < k, f r < f k

/-- The small constant is a positive real number. -/
theorem eps_pos : ∃ r : ℝ, 0 < r ∧ eps = (r : EReal) := by
  refine ⟨((8388608 + 407485 : ℕ) : ℝ) * 2 ^ (-43 : ℤ), by positivity, ?_⟩
  unfold eps
  simp [Ideal.ofBits, Ideal.ieee, -EReal.coe_mul]

/-- A sum of finite numbers, as a finite number. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg' (x : EReal) : 0 ≤ x * x := by
  rcases le_total 0 x with h | h
  · exact mul_nonneg h h
  · have h' : 0 ≤ -x := EReal.neg_nonneg.2 h
    have := mul_nonneg h' h'
    rwa [EReal.neg_mul, mul_comm, EReal.neg_mul, neg_neg] at this

/-- A number whose square is not infinite is finite. -/
theorem real_of_sq {x : EReal} (h : x * x ≠ ⊤) : ∃ r : ℝ, x = r := by
  induction x using EReal.rec with
  | bot => exact absurd (by simp) h
  | top => exact absurd (by simp) h
  | coe r => exact ⟨r, rfl⟩

/-- Each entry of a normalised vector is finite, whatever the vector. -/
theorem nrm_real {n : ℕ} (v : Fin n → EReal) (d : Fin n) : ∃ r : ℝ, nrm v d = r := by
  obtain ⟨ε, hε, he⟩ := eps_pos
  unfold nrm
  by_cases hS : (∑ e, v e * v e) = ⊤
  · refine ⟨0, ?_⟩
    rw [hS, he]
    have : Ideal.sqrt ⊤ + (ε : EReal) = ⊤ := EReal.top_add_coe ε
    rw [this]
    simp [Ideal.div]
  · have hv : ∀ e, ∃ r : ℝ, v e = r := fun e => real_of_sq fun h => hS (by
      refine top_le_iff.1 (h ▸ ?_)
      exact Finset.single_le_sum (f := fun e => v e * v e) (fun i _ => sq_nonneg' _) (Finset.mem_univ e))
    choose w hw using hv
    have hsum : (∑ e, v e * v e) = ((∑ e, w e * w e : ℝ) : EReal) := by
      rw [coe_sum]; exact Finset.sum_congr rfl fun e _ => by rw [hw e, EReal.coe_mul]
    have h0 : (0 : ℝ) ≤ ∑ e, w e * w e := Finset.sum_nonneg fun e _ => mul_self_nonneg _
    have hq : Ideal.sqrt (((∑ e, w e * w e : ℝ)) : EReal) = (Real.sqrt (∑ e, w e * w e) : EReal) := by
      show (if (∑ e, w e * w e : ℝ) < 0 then (⊥ : EReal) else _) = _
      rw [if_neg (not_lt.2 h0)]
    have hpos : 0 < Real.sqrt (∑ e, w e * w e) + ε := add_pos_of_nonneg_of_pos (Real.sqrt_nonneg _) hε
    refine ⟨w d * (Real.sqrt (∑ e, w e * w e) + ε)⁻¹, ?_⟩
    rw [hsum, hq, he, ← EReal.coe_add, hw d, Ideal.div, if_neg (by exact_mod_cast hpos.ne'), ← EReal.coe_inv,
      EReal.coe_mul]

/-- The word of minus two. -/
theorem ofBits_neg_two : Ideal.ofBits .f32 0xC0000000#32 = ((-2 : ℝ) : EReal) := by
  simp [Ideal.ofBits, Ideal.ieee, -EReal.coe_mul, -EReal.coe_neg]; norm_num

/-- The word of two. -/
theorem ofBits_two : Ideal.ofBits .f32 0x40000000#32 = ((2 : ℝ) : EReal) := by
  simp [Ideal.ofBits, Ideal.ieee, -EReal.coe_mul, -EReal.coe_neg]; norm_num

/-- The word of one quarter. -/
theorem ofBits_quarter : Ideal.ofBits .f32 0x3E800000#32 = ((1 / 4 : ℝ) : EReal) := by
  simp [Ideal.ofBits, Ideal.ieee, -EReal.coe_mul, -EReal.coe_neg]; norm_num

/-- The word of minus infinity. -/
theorem ofBits_neg_inf : Ideal.ofBits .f32 0xFF800000#32 = ⊥ := by
  simp [Ideal.ofBits, Ideal.ieee]

/-- The distance of finite vectors, as a finite number. -/
theorem dist_coe {n : ℕ} (h e : Fin n → ℝ) :
    dist (fun d => (h d : EReal)) (fun d => (e d : EReal))
      = (((∑ d, h d * h d) + ∑ d, e d * e d) - 2 * ∑ d, h d * e d : ℝ) := by
  unfold dist
  simp only [EReal.coe_sub, EReal.coe_add, EReal.coe_mul, coe_sum]
  norm_cast

/-- The distance with the factor −2 folded into the codebook and its square norm recovered by one quarter is the
    plain distance, on finite vectors. -/
theorem dist_folded {n : ℕ} (h e : Fin n → ℝ) :
    (((∑ d, (h d : EReal) * h d) + ((1 / 4 : ℝ) : EReal) * ∑ d, ((e d : EReal) * ((-2 : ℝ) : EReal)) * ((e d : EReal) * ((-2 : ℝ) : EReal)))
      + ∑ d, (h d : EReal) * ((e d : EReal) * ((-2 : ℝ) : EReal)))
      = dist (fun d => (h d : EReal)) (fun d => (e d : EReal)) := by
  rw [dist_coe]
  simp only [← EReal.coe_mul, ← coe_sum, ← EReal.coe_add]
  congr 1
  have h1 : ∑ d, e d * -2 * (e d * -2) = 4 * ∑ d, e d * e d := by
    rw [Finset.mul_sum]; exact Finset.sum_congr rfl fun _ _ => by ring
  have h2 : ∑ d, h d * (e d * -2) = -2 * ∑ d, h d * e d := by
    rw [Finset.mul_sum]; exact Finset.sum_congr rfl fun _ _ => by ring
  rw [h1, h2]; ring

/-- A nonempty list of numbers has a first least entry. -/
theorem exists_firstLeast {n : ℕ} (f : Fin (n + 1) → EReal) : ∃ k, FirstLeast f k := by
  classical
  obtain ⟨m, -, hm⟩ := Finset.exists_min_image Finset.univ f ⟨0, Finset.mem_univ _⟩
  have hne : (Finset.univ.filter fun r => f r = f m).Nonempty := ⟨m, by simp⟩
  obtain ⟨k, hk, hk'⟩ := Finset.exists_min_image _ (fun r : Fin (n + 1) => r) hne
  have hkm : f k = f m := (Finset.mem_filter.1 hk).2
  refine ⟨k, fun r => hkm ▸ hm r (Finset.mem_univ _), fun r hr => lt_of_le_of_ne (hkm ▸ hm r (Finset.mem_univ _)) fun h => ?_⟩
  exact absurd (hk' r (by simp [← h, hkm])) (not_le.2 hr)

/-- The softmax weights of finite scores, less any finite shift, are positive and ordered as the scores. -/
theorem softmax_order {n : ℕ} (s : Fin (n + 1) → ℝ) (M : ℝ) :
    (∀ r, (⊥ : EReal) < Ideal.div (Ideal.exp ((s r : EReal) - M)) (∑ q, Ideal.exp ((s q : EReal) - M)))
    ∧ ∀ r r', Ideal.div (Ideal.exp ((s r : EReal) - M)) (∑ q, Ideal.exp ((s q : EReal) - M))
        < Ideal.div (Ideal.exp ((s r' : EReal) - M)) (∑ q, Ideal.exp ((s q : EReal) - M)) ↔ s r < s r' := by
  have hx : ∀ r, Ideal.exp ((s r : EReal) - M) = (Real.exp (s r - M) : EReal) := fun r => by
    rw [← EReal.coe_sub]; rfl
  have hpos : 0 < ∑ q, Real.exp (s q - M) := Finset.sum_pos (fun _ _ => Real.exp_pos _) ⟨0, Finset.mem_univ _⟩
  have hd : ∀ r, Ideal.div (Ideal.exp ((s r : EReal) - M)) (∑ q, Ideal.exp ((s q : EReal) - M))
      = ((Real.exp (s r - M) * (∑ q, Real.exp (s q - M))⁻¹ : ℝ) : EReal) := fun r => by
    simp only [hx, ← coe_sum]
    rw [Ideal.div, if_neg (by exact_mod_cast hpos.ne'), ← EReal.coe_inv, EReal.coe_mul]
  refine ⟨fun r => by rw [hd]; exact EReal.bot_lt_coe _, fun r r' => ?_⟩
  rw [hd, hd, EReal.coe_lt_coe_iff, mul_lt_mul_iff_left₀ (inv_pos.2 hpos), Real.exp_lt_exp]
  constructor <;> intro h <;> linarith

/-- The largest of finitely many finite numbers is finite. -/
theorem fold_max_real {n : ℕ} (f : Fin (n + 1) → ℝ) : ∃ M : ℝ, Finset.fold max ⊥ (fun q => (f q : EReal)) Finset.univ = (M : EReal) := by
  generalize hm : Finset.fold max ⊥ (fun q => (f q : EReal)) Finset.univ = M
  have h1 : M < ⊤ := by rw [← hm, Finset.fold_max_lt]; exact ⟨bot_lt_top, fun x _ => EReal.coe_lt_top _⟩
  have h2 : ⊥ < M := by rw [← hm, Finset.lt_fold_max]; exact Or.inr ⟨0, Finset.mem_univ _, EReal.bot_lt_coe _⟩
  induction M using EReal.rec with
  | bot => exact absurd h2 (lt_irrefl _)
  | top => exact absurd h1 (lt_irrefl _)
  | coe r => exact ⟨r, rfl⟩

/-- The `k`-th bit, most significant first, of the 13-bit code `r`, as a number. -/
def bit (r : Fin 8192) (k : Fin 13) : EReal := if r.val.testBit (12 - k.val) then 1 else 0

/-- A bit of the code's 32-bit word is the bit of the code. -/
theorem getLsb_code (r : Fin 8192) {i : ℕ} (hi : i < 32) : (BitVec.ofNat 32 r.val).getLsbD i = r.val.testBit i := by
  rw [BitVec.getLsbD_ofNat]; simp [hi]

/-- The bit read by masking the code with a shifted one and comparing with zero. -/
theorem bit_masked (r : Fin 8192) (k : Fin 13) :
    (FloatOps.uitofp .f32 (IntOp.cmpi .sgt (IntOp.andi (BitVec.ofNat 32 r.val)
      (IntOp.shli .host 1#32 (IntOp.addi 12#32 (IntOp.muli 4294967295#32 (BitVec.ofNat 32 k.val))))) 0#32) : Ideal .f32) = bit r k := by
  have h1 : ∀ k : Fin 13, IntOp.shli .host 1#32 (IntOp.addi 12#32 (IntOp.muli 4294967295#32 (BitVec.ofNat 32 k.val)))
      = BitVec.twoPow 32 (12 - k.val) := by decide
  have h2 : ∀ k : Fin 13, IntOp.cmpi .sgt (BitVec.twoPow 32 (12 - k.val)) 0#32 = 1#1 := by decide
  rw [h1 k, IntOp.andi, BitVec.and_twoPow, getLsb_code r (by omega)]
  unfold bit
  by_cases hb : r.val.testBit (12 - k.val) = true
  · rw [if_pos hb, if_pos hb, h2 k]
    show (((1#1 : BitVec 1).toNat : ℝ) : EReal) = 1
    norm_num
  · rw [if_neg hb, if_neg hb, show IntOp.cmpi .sgt 0#32 0#32 = 0#1 by decide]
    show (((0#1 : BitVec 1).toNat : ℝ) : EReal) = 0
    norm_num

/-- The bit read by shifting the code down and masking with one. -/
theorem bit_shifted (r : Fin 8192) (s : ℕ) (hs : s ≤ 12) :
    (FloatOps.sitofp .f32 (IntOp.andi (IntOp.shrsi .vector (BitVec.ofNat 32 r.val) (BitVec.ofNat 32 s)) 1#32) : Ideal .f32)
      = if r.val.testBit s then 1 else 0 := by
  have hsn : (BitVec.ofNat 32 s).toNat = s := by simp; omega
  have hr : (BitVec.ofNat 32 r.val).toNat = r.val := by simp; omega
  have hm : (BitVec.ofNat 32 r.val).msb = false := by
    rw [BitVec.msb_eq_false_iff_two_mul_lt, hr]; omega
  have h1 : (1#32 : BitVec 32) = BitVec.twoPow 32 0 := by decide
  rw [IntOp.shrsi, hsn, if_pos (by omega), IntOp.andi, h1, BitVec.and_twoPow]
  have h2 : ((BitVec.ofNat 32 r.val).sshiftRight' (BitVec.ofNat 32 s)).getLsbD 0 = r.val.testBit s := by
    rw [BitVec.sshiftRight', hsn, BitVec.sshiftRight_eq_of_msb_false hm, BitVec.getLsbD_ushiftRight, Nat.add_zero,
      getLsb_code r (by omega)]
  rw [h2]
  by_cases hb : r.val.testBit s = true
  · rw [if_pos hb, if_pos hb]
    show (((BitVec.twoPow 32 0).toInt : ℝ) : EReal) = 1
    rw [show (BitVec.twoPow 32 0).toInt = 1 by decide]; norm_num
  · rw [if_neg hb, if_neg hb]
    show (((0#32 : BitVec 32).toInt : ℝ) : EReal) = 0
    rw [show (0#32 : BitVec 32).toInt = 0 by decide]; norm_num

end Cert.Vq
-- ==== Proof.Vq.RefRun.lean ====
/- The reference program's host operations in order, cut into nine stretches, and its run read back: what each
   stretch leaves in the buffers later stretches read, as a named function of the buffers it reads. -/
module

public import proofs.«01_k».proof.Proof.Gen.ReferenceIdeal
public import Idealize.ShloMosaic.Lib.StableHlo.Run

@[expose] public section

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-- The operations computing the transposed input and the projected tokens. -/
abbrev wTok : List (HloOp τ sig (Elt F)) :=
  [ unary main_arg0 main_v0 ((transpose S16x576x768 [0, 2, 1] · transposes_S16x768x576_S16x576x768_0_2_1) : (⟨S16x768x576, .f32⟩ : BufTy).Contents (Elt F) → (⟨S16x576x768, .f32⟩ : BufTy).Contents (Elt F)),
    unary main_arg7 main_v1 ((transpose S768x64 [1, 0] · transposes_S64x768_S768x64_1_0) : (⟨S64x768, .f32⟩ : BufTy).Contents (Elt F) → (⟨S768x64, .f32⟩ : BufTy).Contents (Elt F)),
    binary main_v0 main_v1 main_v2 ((fun l r => Host.dotGeneral dot_S16x576x768_S768x64_S16x576x64_2_0_01_1_n_n none l r) : (⟨S16x576x768, .f32⟩ : BufTy).Contents (Elt F) → (⟨S768x64, .f32⟩ : BufTy).Contents (Elt F) → (⟨S16x576x64, .f32⟩ : BufTy).Contents (Elt F)),
    unary main_arg8 main_v3 (broadcastInDim S1x1x64 ![2] bcast_S64_S1x1x64_2 : (⟨S64, .f32⟩ : BufTy).Contents (Elt F) → (⟨S1x1x64, .f32⟩ : BufTy).Contents (Elt F)),
    unary main_v3 main_v4 (broadcastInDim S16x576x64 ![0, 1, 2] bcast_S1x1x64_S16x576x64_0_1_2 : (⟨S1x1x64, .f32⟩ : BufTy).Contents (Elt F) → (⟨S16x576x64, .f32⟩ : BufTy).Contents (Elt F)),
    binary main_v2 main_v4 main_v5 (addf : (⟨S16x576x64, .f32⟩ : BufTy).Contents (Elt F) → (⟨S16x576x64, .f32⟩ : BufTy).Contents (Elt F) → (⟨S16x576x64, .f32⟩ : BufTy).Contents (Elt F)) ]

/-- The operations computing the bit table of the codes. -/
abbrev wBit : List (HloOp τ sig (Elt F)) :=
  [ nullary main_v6 (iotaInDim S8192 32 0),
    unary main_v6 main_v7 (broadcastInDim S8192x1 ![0] bcast_S8192_S8192x1_0 : (⟨S8192, .i32⟩ : BufTy).Contents (Elt F) → (⟨S8192x1, .i32⟩ : BufTy).Contents (Elt F)),
    nullary main_v8 (iotaInDim S13 32 0),
    nullary main_c (constantI S_ 32 4294967295#32),
    unary main_c main_v9 (broadcastInDim S13 ![] bcast_S_S13 : (⟨S_, .i32⟩ : BufTy).Contents (Elt F) → (⟨S13, .i32⟩ : BufTy).Contents (Elt F)),
    binary main_v9 main_v8 main_v10 (muli : (⟨S13, .i32⟩ : BufTy).Contents (Elt F) → (⟨S13, .i32⟩ : BufTy).Contents (Elt F) → (⟨S13, .i32⟩ : BufTy).Contents (Elt F)),
    nullary main_c_0 (constantI S_ 32 12#32),
    unary main_c_0 main_v11 (broadcastInDim S13 ![] bcast_S_S13 : (⟨S_, .i32⟩ : BufTy).Contents (Elt F) → (⟨S13, .i32⟩ : BufTy).Contents (Elt F)),
    binary main_v11 main_v10 main_v12 (addi : (⟨S13, .i32⟩ : BufTy).Contents (Elt F) → (⟨S13, .i32⟩ : BufTy).Contents (Elt F) → (⟨S13, .i32⟩ : BufTy).Contents (Elt F)),
    nullary main_c_1 (constantI S_ 32 1#32),
    unary main_c_1 main_v13 (broadcastInDim S13 ![] bcast_S_S13 : (⟨S_, .i32⟩ : BufTy).Contents (Elt F) → (⟨S13, .i32⟩ : BufTy).Contents (Elt F)),
    binary main_v13 main_v12 main_v14 (Host.shli : (⟨S13, .i32⟩ : BufTy).Contents (Elt F) → (⟨S13, .i32⟩ : BufTy).Contents (Elt F) → (⟨S13, .i32⟩ : BufTy).Contents (Elt F)),
    unary main_v14 main_v15 (broadcastInDim S1x13 ![1] bcast_S13_S1x13_1 : (⟨S13, .i32⟩ : BufTy).Contents (Elt F) → (⟨S1x13, .i32⟩ : BufTy).Contents (Elt F)),
    unary main_v7 main_v16 (broadcastInDim S8192x13 ![0, 1] bcast_S8192x1_S8192x13_0_1 : (⟨S8192x1, .i32⟩ : BufTy).Contents (Elt F) → (⟨S8192x13, .i32⟩ : BufTy).Contents (Elt F)),
    unary main_v15 main_v17 (broadcastInDim S8192x13 ![0, 1] bcast_S1x13_S8192x13_0_1 : (⟨S1x13, .i32⟩ : BufTy).Contents (Elt F) → (⟨S8192x13, .i32⟩ : BufTy).Contents (Elt F)),
    binary main_v16 main_v17 main_v18 (andi : (⟨S8192x13, .i32⟩ : BufTy).Contents (Elt F) → (⟨S8192x13, .i32⟩ : BufTy).Contents (Elt F) → (⟨S8192x13, .i32⟩ : BufTy).Contents (Elt F)),
    nullary main_c_2 (constantI S_ 32 0#32),
    unary main_c_2 main_v19 (broadcastInDim S8192x13 ![] bcast_S_S8192x13 : (⟨S_, .i32⟩ : BufTy).Contents (Elt F) → (⟨S8192x13, .i32⟩ : BufTy).Contents (Elt F)),
    binary main_v18 main_v19 main_v20 (cmpi .sgt : (⟨S8192x13, .i32⟩ : BufTy).Contents (Elt F) → (⟨S8192x13, .i32⟩ : BufTy).Contents (Elt F) → (⟨S8192x13, .i1⟩ : BufTy).Contents (Elt F)),
    unary main_v20 main_v21 (uitofp .f32 : (⟨S8192x13, .i1⟩ : BufTy).Contents (Elt F) → (⟨S8192x13, .f32⟩ : BufTy).Contents (Elt F)) ]

/-- The operations computing the code embeddings before their normalisation. -/
abbrev wEmb : List (HloOp τ sig (Elt F)) :=
  [ unary main_arg1 main_v22 ((transpose S13x1024 [1, 0] · transposes_S1024x13_S13x1024_1_0) : (⟨S1024x13, .f32⟩ : BufTy).Contents (Elt F) → (⟨S13x1024, .f32⟩ : BufTy).Contents (Elt F)),
    binary main_v21 main_v22 main_v23 ((fun l r => Host.dotGeneral dot_S8192x13_S13x1024_S8192x1024_1_0_0_1_n_n none l r) : (⟨S8192x13, .f32⟩ : BufTy).Contents (Elt F) → (⟨S13x1024, .f32⟩ : BufTy).Contents (Elt F) → (⟨S8192x1024, .f32⟩ : BufTy).Contents (Elt F)),
    unary main_arg2 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S8192x1024 ![0, 1] bcast_S1x1024_S8192x1024_0_1 : (⟨S1x1024, .f32⟩ : BufTy).Contents (Elt F) → (⟨S8192x1024, .f32⟩ : BufTy).Contents (Elt F)),
    binary main_v23 main_v25 main_v26 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x1024, .f32⟩) main_call0_v0) (broadcastInDim S8192x1024 ![] bcast_S_S8192x1024),
    TRef.binary (TRef.of (T := ⟨S8192x1024, .f32⟩) main_v26) (TRef.of (T := ⟨S8192x1024, .f32⟩) main_call0_v0) (TRef.of (T := ⟨S8192x1024, .f32⟩) main_v27) maximumf,
    unary main_arg3 main_v28 ((transpose S1024x1024 [1, 0] · transposes_S1024x1024_S1024x1024_1_0) : (⟨S1024x1024, .f32⟩ : BufTy).Contents (Elt F) → (⟨S1024x1024, .f32⟩ : BufTy).Contents (Elt F)),
    binary main_v27 main_v28 main_v29 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    unary main_arg4 main_v30 (broadcastInDim S1x1024 ![1] bcast_S1024_S1x1024_1 : (⟨S1024, .f32⟩ : BufTy).Contents (Elt F) → (⟨S1x1024, .f32⟩ : BufTy).Contents (Elt F)),
    unary main_v30 main_v31 (broadcastInDim S8192x1024 ![0, 1] bcast_S1x1024_S8192x1024_0_1 : (⟨S1x1024, .f32⟩ : BufTy).Contents (Elt F) → (⟨S8192x1024, .f32⟩ : BufTy).Contents (Elt F)),
    binary main_v29 main_v31 main_v32 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x1024, .f32⟩) main_call1_v0) (broadcastInDim S8192x1024 ![] bcast_S_S8192x1024),
    TRef.binary (TRef.of (T := ⟨S8192x1024, .f32⟩) main_v32) (TRef.of (T := ⟨S8192x1024, .f32⟩) main_call1_v0) (TRef.of (T := ⟨S8192x1024, .f32⟩) main_v33) maximumf,
    unary main_arg5 main_v34 ((transpose S1024x64 [1, 0] · transposes_S64x1024_S1024x64_1_0) : (⟨S64x1024, .f32⟩ : BufTy).Contents (Elt F) → (⟨S1024x64, .f32⟩ : BufTy).Contents (Elt F)),
    binary main_v33 main_v34 main_v35 ((fun l r => Host.dotGeneral dot_S8192x1024_S1024x64_S8192x64_1_0_0_1_n_n none l r) : (⟨S8192x1024, .f32⟩ : BufTy).Contents (Elt F) → (⟨S1024x64, .f32⟩ : BufTy).Contents (Elt F) → (⟨S8192x64, .f32⟩ : BufTy).Contents (Elt F)),
    unary main_arg6 main_v36 (broadcastInDim S1x64 ![1] bcast_S64_S1x64_1 : (⟨S64, .f32⟩ : BufTy).Contents (Elt F) → (⟨S1x64, .f32⟩ : BufTy).Contents (Elt F)),
    unary main_v36 main_v37 (broadcastInDim S8192x64 ![0, 1] bcast_S1x64_S8192x64_0_1 : (⟨S1x64, .f32⟩ : BufTy).Contents (Elt F) → (⟨S8192x64, .f32⟩ : BufTy).Contents (Elt F)),
    binary main_v35 main_v37 main_v38 (addf : (⟨S8192x64, .f32⟩ : BufTy).Contents (Elt F) → (⟨S8192x64, .f32⟩ : BufTy).Contents (Elt F) → (⟨S8192x64, .f32⟩ : BufTy).Contents (Elt F)) ]

/-- The operations computing the normalised tokens. -/
abbrev wNrmH : List (HloOp τ sig (Elt F)) :=
  [ TRef.binary (TRef.of (T := ⟨S16x576x64, .f32⟩) main_v5) (TRef.of (T := ⟨S16x576x64, .f32⟩) main_v5) (TRef.of (T := ⟨S16x576x64, .f32⟩) main_call2_v0) mulf,
    TRef.nullary (TRef.of (T := ⟨S_, .f32⟩) main_call2_cst) (constant S_ .f32 0x00000000#32),
    TRef.binary (TRef.of (T := ⟨S16x576x64, .f32⟩) main_call2_v0) (TRef.of (T := ⟨S_, .f32⟩) main_call2_cst) (TRef.of (T := ⟨S16x576, .f32⟩) main_call2_v1) (fun x v => Host.reduceAdd x v reducesTo_S16x576x64_S16x576_d2 h_S_),
    TRef.unary (TRef.of (T := ⟨S16x576, .f32⟩) main_call2_v1) (TRef.of (T := ⟨S16x576x1, .f32⟩) main_call2_v2) (broadcastInDim S16x576x1 ![0, 1] bcast_S16x576_S16x576x1_0_1),
    TRef.unary (TRef.of (T := ⟨S16x576x1, .f32⟩) main_call2_v2) (TRef.of (T := ⟨S16x576x1, .f32⟩) main_v39) Host.sqrt,
    nullary main_cst (constant S_ .f32 0x358637BD#32),
    unary main_cst main_v40 (broadcastInDim S16x576x1 ![] bcast_S_S16x576x1 : (⟨S_, .f32⟩ : BufTy).Contents (Elt F) → (⟨S16x576x1, .f32⟩ : BufTy).Contents (Elt F)),
    binary main_v39 main_v40 main_v41 (addf : (⟨S16x576x1, .f32⟩ : BufTy).Contents (Elt F) → (⟨S16x576x1, .f32⟩ : BufTy).Contents (Elt F) → (⟨S16x576x1, .f32⟩ : BufTy).Contents (Elt F)),
    unary main_v41 main_v42 (broadcastInDim S16x576x64 ![0, 1, 2] bcast_S16x576x1_S16x576x64_0_1_2 : (⟨S16x576x1, .f32⟩ : BufTy).Contents (Elt F) → (⟨S16x576x64, .f32⟩ : BufTy).Contents (Elt F)),
    binary main_v5 main_v42 main_v43 (Host.divf : (⟨S16x576x64, .f32⟩ : BufTy).Contents (Elt F) → (⟨S16x576x64, .f32⟩ : BufTy).Contents (Elt F) → (⟨S16x576x64, .f32⟩ : BufTy).Contents (Elt F)) ]

/-- The operations computing the normalised embeddings. -/
abbrev wNrmE : List (HloOp τ sig (Elt F)) :=
  [ TRef.binary (TRef.of (T := ⟨S8192x64, .f32⟩) main_v38) (TRef.of (T := ⟨S8192x64, .f32⟩) main_v38) (TRef.of (T := ⟨S8192x64, .f32⟩) main_call3_v0) mulf,
    TRef.nullary (TRef.of (T := ⟨S_, .f32⟩) main_call3_cst) (constant S_ .f32 0x00000000#32),
    TRef.binary (TRef.of (T := ⟨S8192x64, .f32⟩) main_call3_v0) (TRef.of (T := ⟨S_, .f32⟩) main_call3_cst) (TRef.of (T := ⟨S8192, .f32⟩) main_call3_v1) (fun x v => Host.reduceAdd x v reducesTo_S8192x64_S8192_d1 h_S_),
    TRef.unary (TRef.of (T := ⟨S8192, .f32⟩) main_call3_v1) (TRef.of (T := ⟨S8192x1, .f32⟩) main_call3_v2) (broadcastInDim S8192x1 ![0] bcast_S8192_S8192x1_0),
    TRef.unary (TRef.of (T := ⟨S8192x1, .f32⟩) main_call3_v2) (TRef.of (T := ⟨S8192x1, .f32⟩) main_v44) Host.sqrt,
    nullary main_cst_3 (constant S_ .f32 0x358637BD#32),
    unary main_cst_3 main_v45 (broadcastInDim S8192x1 ![] bcast_S_S8192x1 : (⟨S_, .f32⟩ : BufTy).Contents (Elt F) → (⟨S8192x1, .f32⟩ : BufTy).Contents (Elt F)),
    binary main_v44 main_v45 main_v46 (addf : (⟨S8192x1, .f32⟩ : BufTy).Contents (Elt F) → (⟨S8192x1, .f32⟩ : BufTy).Contents (Elt F) → (⟨S8192x1, .f32⟩ : BufTy).Contents (Elt F)),
    unary main_v46 main_v47 (broadcastInDim S8192x64 ![0, 1] bcast_S8192x1_S8192x64_0_1 : (⟨S8192x1, .f32⟩ : BufTy).Contents (Elt F) → (⟨S8192x64, .f32⟩ : BufTy).Contents (Elt F)),
    binary main_v38 main_v47 main_v48 (Host.divf : (⟨S8192x64, .f32⟩ : BufTy).Contents (Elt F) → (⟨S8192x64, .f32⟩ : BufTy).Contents (Elt F) → (⟨S8192x64, .f32⟩ : BufTy).Contents (Elt F)) ]

/-- The operations computing the distances. -/
abbrev wDist : List (HloOp τ sig (Elt F)) :=
  [ reshape main_v43 main_v49 (rfl : (.f32 : EltTy) = .f32) shapeCasts_S16x576x64_S9216x64,
    binary main_v49 main_v49 main_v50 (mulf : (⟨S9216x64, .f32⟩ : BufTy).Contents (Elt F) → (⟨S9216x64, .f32⟩ : BufTy).Contents (Elt F) → (⟨S9216x64, .f32⟩ : BufTy).Contents (Elt F)),
    nullary main_cst_4 (constant S_ .f32 0x00000000#32),
    binary main_v50 main_cst_4 main_v51 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v51 main_v52 (broadcastInDim S9216x1 ![0] bcast_S9216_S9216x1_0 : (⟨S9216, .f32⟩ : BufTy).Contents (Elt F) → (⟨S9216x1, .f32⟩ : BufTy).Contents (Elt F)),
    binary main_v48 main_v48 main_v53 (mulf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x00000000#32),
    binary main_v53 main_cst_5 main_v54 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v54 main_v55 (broadcastInDim S1x8192 ![1] bcast_S8192_S1x8192_1 : (⟨S8192, .f32⟩ : BufTy).Contents (Elt F) → (⟨S1x8192, .f32⟩ : BufTy).Contents (Elt F)),
    unary main_v52 main_v56 (broadcastInDim S9216x8192 ![0, 1] bcast_S9216x1_S9216x8192_0_1 : (⟨S9216x1, .f32⟩ : BufTy).Contents (Elt F) → (⟨S9216x8192, .f32⟩ : BufTy).Contents (Elt F)),
    unary main_v55 main_v57 (broadcastInDim S9216x8192 ![0, 1] bcast_S1x8192_S9216x8192_0_1 : (⟨S1x8192, .f32⟩ : BufTy).Contents (Elt F) → (⟨S9216x8192, .f32⟩ : BufTy).Contents (Elt F)),
    binary main_v56 main_v57 main_v58 (addf : (⟨S9216x8192, .f32⟩ : BufTy).Contents (Elt F) → (⟨S9216x8192, .f32⟩ : BufTy).Contents (Elt F) → (⟨S9216x8192, .f32⟩ : BufTy).Contents (Elt F)),
    unary main_v48 main_v59 ((transpose S64x8192 [1, 0] · transposes_S8192x64_S64x8192_1_0) : (⟨S8192x64, .f32⟩ : BufTy).Contents (Elt F) → (⟨S64x8192, .f32⟩ : BufTy).Contents (Elt F)),
    binary main_v49 main_v59 main_v60 ((fun l r => Host.dotGeneral dot_S9216x64_S64x8192_S9216x8192_1_0_0_1_n_n none l r) : (⟨S9216x64, .f32⟩ : BufTy).Contents (Elt F) → (⟨S64x8192, .f32⟩ : BufTy).Contents (Elt F) → (⟨S9216x8192, .f32⟩ : BufTy).Contents (Elt F)),
    nullary main_cst_6 (constant S_ .f32 0x40000000#32),
    unary main_cst_6 main_v61 (broadcastInDim S9216x8192 ![] bcast_S_S9216x8192 : (⟨S_, .f32⟩ : BufTy).Contents (Elt F) → (⟨S9216x8192, .f32⟩ : BufTy).Contents (Elt F)),
    binary main_v61 main_v60 main_v62 (mulf : (⟨S9216x8192, .f32⟩ : BufTy).Contents (Elt F) → (⟨S9216x8192, .f32⟩ : BufTy).Contents (Elt F) → (⟨S9216x8192, .f32⟩ : BufTy).Contents (Elt F)),
    binary main_v58 main_v62 main_v63 (subf : (⟨S9216x8192, .f32⟩ : BufTy).Contents (Elt F) → (⟨S9216x8192, .f32⟩ : BufTy).Contents (Elt F) → (⟨S9216x8192, .f32⟩ : BufTy).Contents (Elt F)) ]

/-- The operations computing the softmax of the negated distances. -/
abbrev wSoft : List (HloOp τ sig (Elt F)) :=
  [ unary main_v63 main_v64 (Host.negf : (⟨S9216x8192, .f32⟩ : BufTy).Contents (Elt F) → (⟨S9216x8192, .f32⟩ : BufTy).Contents (Elt F)),
    nullary main_cst_7 (constant S_ .f32 0x3F800000#32),
    unary main_cst_7 main_v65 (broadcastInDim S9216x8192 ![] bcast_S_S9216x8192 : (⟨S_, .f32⟩ : BufTy).Contents (Elt F) → (⟨S9216x8192, .f32⟩ : BufTy).Contents (Elt F)),
    binary main_v64 main_v65 main_v66 (Host.divf : (⟨S9216x8192, .f32⟩ : BufTy).Contents (Elt F) → (⟨S9216x8192, .f32⟩ : BufTy).Contents (Elt F) → (⟨S9216x8192, .f32⟩ : BufTy).Contents (Elt F)),
    nullary main_cst_8 (constant S_ .f32 0xFF800000#32),
    binary main_v66 main_cst_8 main_v67 ((fun x v => Host.reduce FloatOps.maximumf x v reducesTo_S9216x8192_S9216_d1 h_S_) : (⟨S9216x8192, .f32⟩ : BufTy).Contents (Elt F) → (⟨S_, .f32⟩ : BufTy).Contents (Elt F) → (⟨S9216, .f32⟩ : BufTy).Contents (Elt F)),
    nullary main_cst_9 (constant S_ .f32 0xFF800000#32),
    unary main_cst_9 main_v68 (broadcastInDim S9216 ![] bcast_S_S9216 : (⟨S_, .f32⟩ : BufTy).Contents (Elt F) → (⟨S9216, .f32⟩ : BufTy).Contents (Elt F)),
    binary main_v68 main_v67 main_v69 (maximumf : (⟨S9216, .f32⟩ : BufTy).Contents (Elt F) → (⟨S9216, .f32⟩ : BufTy).Contents (Elt F) → (⟨S9216, .f32⟩ : BufTy).Contents (Elt F)),
    unary main_v69 main_v70 (broadcastInDim S9216x1 ![0] bcast_S9216_S9216x1_0 : (⟨S9216, .f32⟩ : BufTy).Contents (Elt F) → (⟨S9216x1, .f32⟩ : BufTy).Contents (Elt F)),
    unary main_v70 main_v71 (broadcastInDim S9216x8192 ![0, 1] bcast_S9216x1_S9216x8192_0_1 : (⟨S9216x1, .f32⟩ : BufTy).Contents (Elt F) → (⟨S9216x8192, .f32⟩ : BufTy).Contents (Elt F)),
    binary main_v66 main_v71 main_v72 (subf : (⟨S9216x8192, .f32⟩ : BufTy).Contents (Elt F) → (⟨S9216x8192, .f32⟩ : BufTy).Contents (Elt F) → (⟨S9216x8192, .f32⟩ : BufTy).Contents (Elt F)),
    unary main_v72 main_v73 (Host.exp : (⟨S9216x8192, .f32⟩ : BufTy).Contents (Elt F) → (⟨S9216x8192, .f32⟩ : BufTy).Contents (Elt F)),
    nullary main_cst_10 (constant S_ .f32 0x00000000#32),
    binary main_v73 main_cst_10 main_v74 ((fun x v => Host.reduceAdd x v reducesTo_S9216x8192_S9216_d1 h_S_) : (⟨S9216x8192, .f32⟩ : BufTy).Contents (Elt F) → (⟨S_, .f32⟩ : BufTy).Contents (Elt F) → (⟨S9216, .f32⟩ : BufTy).Contents (Elt F)),
    unary main_v74 main_v75 (broadcastInDim S9216x1 ![0] bcast_S9216_S9216x1_0 : (⟨S9216, .f32⟩ : BufTy).Contents (Elt F) → (⟨S9216x1, .f32⟩ : BufTy).Contents (Elt F)),
    unary main_v75 main_v76 (broadcastInDim S9216x8192 ![0, 1] bcast_S9216x1_S9216x8192_0_1 : (⟨S9216x1, .f32⟩ : BufTy).Contents (Elt F) → (⟨S9216x8192, .f32⟩ : BufTy).Contents (Elt F)),
    binary main_v73 main_v76 main_v77 (Host.divf : (⟨S9216x8192, .f32⟩ : BufTy).Contents (Elt F) → (⟨S9216x8192, .f32⟩ : BufTy).Contents (Elt F) → (⟨S9216x8192, .f32⟩ : BufTy).Contents (Elt F)) ]

/-- The operations computing the position of the largest weight. -/
abbrev wArg : List (HloOp τ sig (Elt F)) :=
  [ TRef.nullary (TRef.of (T := ⟨S9216x8192, .i32⟩) main_call4_v0) (iotaInDim S9216x8192 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S9216x8192, .f32⟩) main_v77) (TRef.of (T := ⟨S9216x8192, .i32⟩) main_call4_v0) (TRef.of (T := ⟨S_, .f32⟩) main_call4_cst) (TRef.of (T := ⟨S_, .i32⟩) main_call4_c) (TRef.of (T := ⟨S9216, .f32⟩) main_call4_v1_0) (fun x y u v j => (Host.argReduce reducer_argmax_f32_i32 x y u v reducesTo_S9216x8192_S9216_d1 h_S_ j).1),
    TRef.quaternary (TRef.of (T := ⟨S9216x8192, .f32⟩) main_v77) (TRef.of (T := ⟨S9216x8192, .i32⟩) main_call4_v0) (TRef.of (T := ⟨S_, .f32⟩) main_call4_cst) (TRef.of (T := ⟨S_, .i32⟩) main_call4_c) (TRef.of (T := ⟨S9216, .i32⟩) main_v78) (fun x y u v j => (Host.argReduce reducer_argmax_f32_i32 x y u v reducesTo_S9216x8192_S9216_d1 h_S_ j).2) ]

/-- The operations computing the three results. -/
abbrev wOut : List (HloOp τ sig (Elt F)) :=
  [ binary main_v77 main_v48 main_v79 ((fun l r => Host.dotGeneral dot_S9216x8192_S8192x64_S9216x64_1_0_0_1_n_n none l r) : (⟨S9216x8192, .f32⟩ : BufTy).Contents (Elt F) → (⟨S8192x64, .f32⟩ : BufTy).Contents (Elt F) → (⟨S9216x64, .f32⟩ : BufTy).Contents (Elt F)),
    reshape main_v79 main_v80 (rfl : (.f32 : EltTy) = .f32) shapeCasts_S9216x64_S16x576x64,
    unary main_arg9 main_v81 ((transpose S64x768 [1, 0] · transposes_S768x64_S64x768_1_0) : (⟨S768x64, .f32⟩ : BufTy).Contents (Elt F) → (⟨S64x768, .f32⟩ : BufTy).Contents (Elt F)),
    binary main_v80 main_v81 main_v82 ((fun l r => Host.dotGeneral dot_S16x576x64_S64x768_S16x576x768_2_0_01_1_n_n none l r) : (⟨S16x576x64, .f32⟩ : BufTy).Contents (Elt F) → (⟨S64x768, .f32⟩ : BufTy).Contents (Elt F) → (⟨S16x576x768, .f32⟩ : BufTy).Contents (Elt F)),
    unary main_arg10 main_v83 (broadcastInDim S1x1x768 ![2] bcast_S768_S1x1x768_2 : (⟨S768, .f32⟩ : BufTy).Contents (Elt F) → (⟨S1x1x768, .f32⟩ : BufTy).Contents (Elt F)),
    unary main_v83 main_v84 (broadcastInDim S16x576x768 ![0, 1, 2] bcast_S1x1x768_S16x576x768_0_1_2 : (⟨S1x1x768, .f32⟩ : BufTy).Contents (Elt F) → (⟨S16x576x768, .f32⟩ : BufTy).Contents (Elt F)),
    binary main_v82 main_v84 main_v85 (addf : (⟨S16x576x768, .f32⟩ : BufTy).Contents (Elt F) → (⟨S16x576x768, .f32⟩ : BufTy).Contents (Elt F) → (⟨S16x576x768, .f32⟩ : BufTy).Contents (Elt F)),
    reshape main_v78 main_v86 (rfl : (.i32 : EltTy) = .i32) shapeCasts_S9216_S16x576,
    nullary main_cst_11 (constant S_ .f32 0x3F800000#32),
    unary main_cst_11 main_v87 (broadcastInDim S16x1x1 ![] bcast_S_S16x1x1 : (⟨S_, .f32⟩ : BufTy).Contents (Elt F) → (⟨S16x1x1, .f32⟩ : BufTy).Contents (Elt F)),
    nullary main_cst_12 (constant S_ .f32 0x3F800000#32),
    unary main_cst_12 main_v88 (broadcastInDim S16x1x1 ![] bcast_S_S16x1x1 : (⟨S_, .f32⟩ : BufTy).Contents (Elt F) → (⟨S16x1x1, .f32⟩ : BufTy).Contents (Elt F)),
    binary main_v88 main_v87 main_v89 (subf : (⟨S16x1x1, .f32⟩ : BufTy).Contents (Elt F) → (⟨S16x1x1, .f32⟩ : BufTy).Contents (Elt F) → (⟨S16x1x1, .f32⟩ : BufTy).Contents (Elt F)),
    unary main_v89 main_v90 (broadcastInDim S16x576x768 ![0, 1, 2] bcast_S16x1x1_S16x576x768_0_1_2 : (⟨S16x1x1, .f32⟩ : BufTy).Contents (Elt F) → (⟨S16x576x768, .f32⟩ : BufTy).Contents (Elt F)),
    binary main_v85 main_v90 main_v91 (mulf : (⟨S16x576x768, .f32⟩ : BufTy).Contents (Elt F) → (⟨S16x576x768, .f32⟩ : BufTy).Contents (Elt F) → (⟨S16x576x768, .f32⟩ : BufTy).Contents (Elt F)),
    unary main_v87 main_v92 (broadcastInDim S16x576x768 ![0, 1, 2] bcast_S16x1x1_S16x576x768_0_1_2 : (⟨S16x1x1, .f32⟩ : BufTy).Contents (Elt F) → (⟨S16x576x768, .f32⟩ : BufTy).Contents (Elt F)),
    binary main_v0 main_v92 main_v93 (mulf : (⟨S16x576x768, .f32⟩ : BufTy).Contents (Elt F) → (⟨S16x576x768, .f32⟩ : BufTy).Contents (Elt F) → (⟨S16x576x768, .f32⟩ : BufTy).Contents (Elt F)),
    binary main_v91 main_v93 main_v94 (addf : (⟨S16x576x768, .f32⟩ : BufTy).Contents (Elt F) → (⟨S16x576x768, .f32⟩ : BufTy).Contents (Elt F) → (⟨S16x576x768, .f32⟩ : BufTy).Contents (Elt F)),
    nullary main_cst_13 (constant S_ .f32 0x00000000#32) ]

/-- All the operations of the reference, in order. -/
abbrev ops : List (HloOp τ sig (Elt F)) := wTok ++ (wBit ++ (wEmb ++ (wNrmH ++ (wNrmE ++ (wDist ++ (wSoft ++ (wArg ++ (wOut))))))))

set_option maxRecDepth 8192 in
set_option maxHeartbeats 2000000 in
/-- The reference is the sequence of its operations. -/
theorem main_eq (c : Dev nD) : main (F := F) c = seq ops := rfl

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

set_option maxRecDepth 8192 in
/-- Each operation touches buffers of the tensor core only. -/
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., binary_bufs_sub .., reshape_bufs_sub .., unary_bufs_sub .., binary_bufs_sub .., unary_bufs_sub .., unary_bufs_sub .., binary_bufs_sub .., reshape_bufs_sub .., nullary_bufs_sub .., unary_bufs_sub .., nullary_bufs_sub .., unary_bufs_sub .., binary_bufs_sub .., unary_bufs_sub .., binary_bufs_sub .., unary_bufs_sub .., binary_bufs_sub .., binary_bufs_sub .., nullary_bufs_sub ..⟩

/-- What `main_v0` holds, of the buffers its stretch reads. -/
def f_v0 (x_arg0 : (⟨S16x768x576, .f32⟩ : BufTy).Contents (Elt F)) : (⟨S16x576x768, .f32⟩ : BufTy).Contents (Elt F) :=
  transpose S16x576x768 [0, 2, 1] x_arg0 transposes_S16x768x576_S16x576x768_0_2_1

/-- What `main_v5` holds, of the buffers its stretch reads. -/
def f_v5 (x_arg0 : (⟨S16x768x576, .f32⟩ : BufTy).Contents (Elt F)) (x_arg7 : (⟨S64x768, .f32⟩ : BufTy).Contents (Elt F)) (x_arg8 : (⟨S64, .f32⟩ : BufTy).Contents (Elt F)) : (⟨S16x576x64, .f32⟩ : BufTy).Contents (Elt F) :=
  let x_v0 : (⟨S16x576x768, .f32⟩ : BufTy).Contents (Elt F) := transpose S16x576x768 [0, 2, 1] x_arg0 transposes_S16x768x576_S16x576x768_0_2_1
  let x_v1 : (⟨S768x64, .f32⟩ : BufTy).Contents (Elt F) := transpose S768x64 [1, 0] x_arg7 transposes_S64x768_S768x64_1_0
  let x_v2 : (⟨S16x576x64, .f32⟩ : BufTy).Contents (Elt F) := Host.dotGeneral dot_S16x576x768_S768x64_S16x576x64_2_0_01_1_n_n none x_v0 x_v1
  let x_v3 : (⟨S1x1x64, .f32⟩ : BufTy).Contents (Elt F) := broadcastInDim S1x1x64 ![2] bcast_S64_S1x1x64_2 x_arg8
  let x_v4 : (⟨S16x576x64, .f32⟩ : BufTy).Contents (Elt F) := broadcastInDim S16x576x64 ![0, 1, 2] bcast_S1x1x64_S16x576x64_0_1_2 x_v3
  addf x_v2 x_v4

/-- What `main_v21` holds, of the buffers its stretch reads. -/
def f_v21  : (⟨S8192x13, .f32⟩ : BufTy).Contents (Elt F) :=
  let x_v6 : (⟨S8192, .i32⟩ : BufTy).Contents (Elt F) := (iotaInDim S8192 32 0)
  let x_v7 : (⟨S8192x1, .i32⟩ : BufTy).Contents (Elt F) := broadcastInDim S8192x1 ![0] bcast_S8192_S8192x1_0 x_v6
  let x_v8 : (⟨S13, .i32⟩ : BufTy).Contents (Elt F) := (iotaInDim S13 32 0)
  let x_c : (⟨S_, .i32⟩ : BufTy).Contents (Elt F) := (constantI S_ 32 4294967295#32)
  let x_v9 : (⟨S13, .i32⟩ : BufTy).Contents (Elt F) := broadcastInDim S13 ![] bcast_S_S13 x_c
  let x_v10 : (⟨S13, .i32⟩ : BufTy).Contents (Elt F) := muli x_v9 x_v8
  let x_c_0 : (⟨S_, .i32⟩ : BufTy).Contents (Elt F) := (constantI S_ 32 12#32)
  let x_v11 : (⟨S13, .i32⟩ : BufTy).Contents (Elt F) := broadcastInDim S13 ![] bcast_S_S13 x_c_0
  let x_v12 : (⟨S13, .i32⟩ : BufTy).Contents (Elt F) := addi x_v11 x_v10
  let x_c_1 : (⟨S_, .i32⟩ : BufTy).Contents (Elt F) := (constantI S_ 32 1#32)
  let x_v13 : (⟨S13, .i32⟩ : BufTy).Contents (Elt F) := broadcastInDim S13 ![] bcast_S_S13 x_c_1
  let x_v14 : (⟨S13, .i32⟩ : BufTy).Contents (Elt F) := Host.shli x_v13 x_v12
  let x_v15 : (⟨S1x13, .i32⟩ : BufTy).Contents (Elt F) := broadcastInDim S1x13 ![1] bcast_S13_S1x13_1 x_v14
  let x_v16 : (⟨S8192x13, .i32⟩ : BufTy).Contents (Elt F) := broadcastInDim S8192x13 ![0, 1] bcast_S8192x1_S8192x13_0_1 x_v7
  let x_v17 : (⟨S8192x13, .i32⟩ : BufTy).Contents (Elt F) := broadcastInDim S8192x13 ![0, 1] bcast_S1x13_S8192x13_0_1 x_v15
  let x_v18 : (⟨S8192x13, .i32⟩ : BufTy).Contents (Elt F) := andi x_v16 x_v17
  let x_c_2 : (⟨S_, .i32⟩ : BufTy).Contents (Elt F) := (constantI S_ 32 0#32)
  let x_v19 : (⟨S8192x13, .i32⟩ : BufTy).Contents (Elt F) := broadcastInDim S8192x13 ![] bcast_S_S8192x13 x_c_2
  let x_v20 : (⟨S8192x13, .i1⟩ : BufTy).Contents (Elt F) := cmpi .sgt x_v18 x_v19
  uitofp .f32 x_v20

/-- What `main_v38` holds, of the buffers its stretch reads. -/
def f_v38 (x_arg1 : (⟨S1024x13, .f32⟩ : BufTy).Contents (Elt F)) (x_arg2 : (⟨S1024, .f32⟩ : BufTy).Contents (Elt F)) (x_arg3 : (⟨S1024x1024, .f32⟩ : BufTy).Contents (Elt F)) (x_arg4 : (⟨S1024, .f32⟩ : BufTy).Contents (Elt F)) (x_arg5 : (⟨S64x1024, .f32⟩ : BufTy).Contents (Elt F)) (x_arg6 : (⟨S64, .f32⟩ : BufTy).Contents (Elt F)) (x_v21 : (⟨S8192x13, .f32⟩ : BufTy).Contents (Elt F)) : (⟨S8192x64, .f32⟩ : BufTy).Contents (Elt F) :=
  let x_v22 : (⟨S13x1024, .f32⟩ : BufTy).Contents (Elt F) := transpose S13x1024 [1, 0] x_arg1 transposes_S1024x13_S13x1024_1_0
  let x_v23 : (⟨S8192x1024, .f32⟩ : BufTy).Contents (Elt F) := Host.dotGeneral dot_S8192x13_S13x1024_S8192x1024_1_0_0_1_n_n none x_v21 x_v22
  let x_v24 : (⟨S1x1024, .f32⟩ : BufTy).Contents (Elt F) := broadcastInDim S1x1024 ![1] bcast_S1024_S1x1024_1 x_arg2
  let x_v25 : (⟨S8192x1024, .f32⟩ : BufTy).Contents (Elt F) := broadcastInDim S8192x1024 ![0, 1] bcast_S1x1024_S8192x1024_0_1 x_v24
  let x_v26 : (⟨S8192x1024, .f32⟩ : BufTy).Contents (Elt F) := addf x_v23 x_v25
  let x_call0_cst : (⟨S_, .f32⟩ : BufTy).Contents (Elt F) := (constant S_ .f32 0x00000000#32)
  let x_call0_v0 : (⟨S8192x1024, .f32⟩ : BufTy).Contents (Elt F) := (broadcastInDim S8192x1024 ![] bcast_S_S8192x1024) x_call0_cst
  let x_v27 : (⟨S8192x1024, .f32⟩ : BufTy).Contents (Elt F) := maximumf x_v26 x_call0_v0
  let x_v28 : (⟨S1024x1024, .f32⟩ : BufTy).Contents (Elt F) := transpose S1024x1024 [1, 0] x_arg3 transposes_S1024x1024_S1024x1024_1_0
  let x_v29 : (⟨S8192x1024, .f32⟩ : BufTy).Contents (Elt F) := Host.dotGeneral dot_S8192x1024_S1024x1024_S8192x1024_1_0_0_1_n_n none x_v27 x_v28
  let x_v30 : (⟨S1x1024, .f32⟩ : BufTy).Contents (Elt F) := broadcastInDim S1x1024 ![1] bcast_S1024_S1x1024_1 x_arg4
  let x_v31 : (⟨S8192x1024, .f32⟩ : BufTy).Contents (Elt F) := broadcastInDim S8192x1024 ![0, 1] bcast_S1x1024_S8192x1024_0_1 x_v30
  let x_v32 : (⟨S8192x1024, .f32⟩ : BufTy).Contents (Elt F) := addf x_v29 x_v31
  let x_call1_cst : (⟨S_, .f32⟩ : BufTy).Contents (Elt F) := (constant S_ .f32 0x00000000#32)
  let x_call1_v0 : (⟨S8192x1024, .f32⟩ : BufTy).Contents (Elt F) := (broadcastInDim S8192x1024 ![] bcast_S_S8192x1024) x_call1_cst
  let x_v33 : (⟨S8192x1024, .f32⟩ : BufTy).Contents (Elt F) := maximumf x_v32 x_call1_v0
  let x_v34 : (⟨S1024x64, .f32⟩ : BufTy).Contents (Elt F) := transpose S1024x64 [1, 0] x_arg5 transposes_S64x1024_S1024x64_1_0
  let x_v35 : (⟨S8192x64, .f32⟩ : BufTy).Contents (Elt F) := Host.dotGeneral dot_S8192x1024_S1024x64_S8192x64_1_0_0_1_n_n none x_v33 x_v34
  let x_v36 : (⟨S1x64, .f32⟩ : BufTy).Contents (Elt F) := broadcastInDim S1x64 ![1] bcast_S64_S1x64_1 x_arg6
  let x_v37 : (⟨S8192x64, .f32⟩ : BufTy).Contents (Elt F) := broadcastInDim S8192x64 ![0, 1] bcast_S1x64_S8192x64_0_1 x_v36
  addf x_v35 x_v37

/-- What `main_v43` holds, of the buffers its stretch reads. -/
def f_v43 (x_v5 : (⟨S16x576x64, .f32⟩ : BufTy).Contents (Elt F)) : (⟨S16x576x64, .f32⟩ : BufTy).Contents (Elt F) :=
  let x_call2_v0 : (⟨S16x576x64, .f32⟩ : BufTy).Contents (Elt F) := mulf x_v5 x_v5
  let x_call2_cst : (⟨S_, .f32⟩ : BufTy).Contents (Elt F) := (constant S_ .f32 0x00000000#32)
  let x_call2_v1 : (⟨S16x576, .f32⟩ : BufTy).Contents (Elt F) := Host.reduceAdd x_call2_v0 x_call2_cst reducesTo_S16x576x64_S16x576_d2 h_S_
  let x_call2_v2 : (⟨S16x576x1, .f32⟩ : BufTy).Contents (Elt F) := (broadcastInDim S16x576x1 ![0, 1] bcast_S16x576_S16x576x1_0_1) x_call2_v1
  let x_v39 : (⟨S16x576x1, .f32⟩ : BufTy).Contents (Elt F) := Host.sqrt x_call2_v2
  let x_cst : (⟨S_, .f32⟩ : BufTy).Contents (Elt F) := (constant S_ .f32 0x358637BD#32)
  let x_v40 : (⟨S16x576x1, .f32⟩ : BufTy).Contents (Elt F) := broadcastInDim S16x576x1 ![] bcast_S_S16x576x1 x_cst
  let x_v41 : (⟨S16x576x1, .f32⟩ : BufTy).Contents (Elt F) := addf x_v39 x_v40
  let x_v42 : (⟨S16x576x64, .f32⟩ : BufTy).Contents (Elt F) := broadcastInDim S16x576x64 ![0, 1, 2] bcast_S16x576x1_S16x576x64_0_1_2 x_v41
  Host.divf x_v5 x_v42

/-- What `main_v48` holds, of the buffers its stretch reads. -/
def f_v48 (x_v38 : (⟨S8192x64, .f32⟩ : BufTy).Contents (Elt F)) : (⟨S8192x64, .f32⟩ : BufTy).Contents (Elt F) :=
  let x_call3_v0 : (⟨S8192x64, .f32⟩ : BufTy).Contents (Elt F) := mulf x_v38 x_v38
  let x_call3_cst : (⟨S_, .f32⟩ : BufTy).Contents (Elt F) := (constant S_ .f32 0x00000000#32)
  let x_call3_v1 : (⟨S8192, .f32⟩ : BufTy).Contents (Elt F) := Host.reduceAdd x_call3_v0 x_call3_cst reducesTo_S8192x64_S8192_d1 h_S_
  let x_call3_v2 : (⟨S8192x1, .f32⟩ : BufTy).Contents (Elt F) := (broadcastInDim S8192x1 ![0] bcast_S8192_S8192x1_0) x_call3_v1
  let x_v44 : (⟨S8192x1, .f32⟩ : BufTy).Contents (Elt F) := Host.sqrt x_call3_v2
  let x_cst_3 : (⟨S_, .f32⟩ : BufTy).Contents (Elt F) := (constant S_ .f32 0x358637BD#32)
  let x_v45 : (⟨S8192x1, .f32⟩ : BufTy).Contents (Elt F) := broadcastInDim S8192x1 ![] bcast_S_S8192x1 x_cst_3
  let x_v46 : (⟨S8192x1, .f32⟩ : BufTy).Contents (Elt F) := addf x_v44 x_v45
  let x_v47 : (⟨S8192x64, .f32⟩ : BufTy).Contents (Elt F) := broadcastInDim S8192x64 ![0, 1] bcast_S8192x1_S8192x64_0_1 x_v46
  Host.divf x_v38 x_v47

/-- What `main_v63` holds, of the buffers its stretch reads. -/
def f_v63 (x_v43 : (⟨S16x576x64, .f32⟩ : BufTy).Contents (Elt F)) (x_v48 : (⟨S8192x64, .f32⟩ : BufTy).Contents (Elt F)) : (⟨S9216x8192, .f32⟩ : BufTy).Contents (Elt F) :=
  let x_v49 : (⟨S9216x64, .f32⟩ : BufTy).Contents (Elt F) := shapeCast S9216x64 x_v43 shapeCasts_S16x576x64_S9216x64
  let x_v50 : (⟨S9216x64, .f32⟩ : BufTy).Contents (Elt F) := mulf x_v49 x_v49
  let x_cst_4 : (⟨S_, .f32⟩ : BufTy).Contents (Elt F) := (constant S_ .f32 0x00000000#32)
  let x_v51 : (⟨S9216, .f32⟩ : BufTy).Contents (Elt F) := Host.reduceAdd x_v50 x_cst_4 reducesTo_S9216x64_S9216_d1 h_S_
  let x_v52 : (⟨S9216x1, .f32⟩ : BufTy).Contents (Elt F) := broadcastInDim S9216x1 ![0] bcast_S9216_S9216x1_0 x_v51
  let x_v53 : (⟨S8192x64, .f32⟩ : BufTy).Contents (Elt F) := mulf x_v48 x_v48
  let x_cst_5 : (⟨S_, .f32⟩ : BufTy).Contents (Elt F) := (constant S_ .f32 0x00000000#32)
  let x_v54 : (⟨S8192, .f32⟩ : BufTy).Contents (Elt F) := Host.reduceAdd x_v53 x_cst_5 reducesTo_S8192x64_S8192_d1 h_S_
  let x_v55 : (⟨S1x8192, .f32⟩ : BufTy).Contents (Elt F) := broadcastInDim S1x8192 ![1] bcast_S8192_S1x8192_1 x_v54
  let x_v56 : (⟨S9216x8192, .f32⟩ : BufTy).Contents (Elt F) := broadcastInDim S9216x8192 ![0, 1] bcast_S9216x1_S9216x8192_0_1 x_v52
  let x_v57 : (⟨S9216x8192, .f32⟩ : BufTy).Contents (Elt F) := broadcastInDim S9216x8192 ![0, 1] bcast_S1x8192_S9216x8192_0_1 x_v55
  let x_v58 : (⟨S9216x8192, .f32⟩ : BufTy).Contents (Elt F) := addf x_v56 x_v57
  let x_v59 : (⟨S64x8192, .f32⟩ : BufTy).Contents (Elt F) := transpose S64x8192 [1, 0] x_v48 transposes_S8192x64_S64x8192_1_0
  let x_v60 : (⟨S9216x8192, .f32⟩ : BufTy).Contents (Elt F) := Host.dotGeneral dot_S9216x64_S64x8192_S9216x8192_1_0_0_1_n_n none x_v49 x_v59
  let x_cst_6 : (⟨S_, .f32⟩ : BufTy).Contents (Elt F) := (constant S_ .f32 0x40000000#32)
  let x_v61 : (⟨S9216x8192, .f32⟩ : BufTy).Contents (Elt F) := broadcastInDim S9216x8192 ![] bcast_S_S9216x8192 x_cst_6
  let x_v62 : (⟨S9216x8192, .f32⟩ : BufTy).Contents (Elt F) := mulf x_v61 x_v60
  subf x_v58 x_v62

/-- What `main_v77` holds, of the buffers its stretch reads. -/
def f_v77 (x_v63 : (⟨S9216x8192, .f32⟩ : BufTy).Contents (Elt F)) : (⟨S9216x8192, .f32⟩ : BufTy).Contents (Elt F) :=
  let x_v64 : (⟨S9216x8192, .f32⟩ : BufTy).Contents (Elt F) := Host.negf x_v63
  let x_cst_7 : (⟨S_, .f32⟩ : BufTy).Contents (Elt F) := (constant S_ .f32 0x3F800000#32)
  let x_v65 : (⟨S9216x8192, .f32⟩ : BufTy).Contents (Elt F) := broadcastInDim S9216x8192 ![] bcast_S_S9216x8192 x_cst_7
  let x_v66 : (⟨S9216x8192, .f32⟩ : BufTy).Contents (Elt F) := Host.divf x_v64 x_v65
  let x_cst_8 : (⟨S_, .f32⟩ : BufTy).Contents (Elt F) := (constant S_ .f32 0xFF800000#32)
  let x_v67 : (⟨S9216, .f32⟩ : BufTy).Contents (Elt F) := Host.reduce FloatOps.maximumf x_v66 x_cst_8 reducesTo_S9216x8192_S9216_d1 h_S_
  let x_cst_9 : (⟨S_, .f32⟩ : BufTy).Contents (Elt F) := (constant S_ .f32 0xFF800000#32)
  let x_v68 : (⟨S9216, .f32⟩ : BufTy).Contents (Elt F) := broadcastInDim S9216 ![] bcast_S_S9216 x_cst_9
  let x_v69 : (⟨S9216, .f32⟩ : BufTy).Contents (Elt F) := maximumf x_v68 x_v67
  let x_v70 : (⟨S9216x1, .f32⟩ : BufTy).Contents (Elt F) := broadcastInDim S9216x1 ![0] bcast_S9216_S9216x1_0 x_v69
  let x_v71 : (⟨S9216x8192, .f32⟩ : BufTy).Contents (Elt F) := broadcastInDim S9216x8192 ![0, 1] bcast_S9216x1_S9216x8192_0_1 x_v70
  let x_v72 : (⟨S9216x8192, .f32⟩ : BufTy).Contents (Elt F) := subf x_v66 x_v71
  let x_v73 : (⟨S9216x8192, .f32⟩ : BufTy).Contents (Elt F) := Host.exp x_v72
  let x_cst_10 : (⟨S_, .f32⟩ : BufTy).Contents (Elt F) := (constant S_ .f32 0x00000000#32)
  let x_v74 : (⟨S9216, .f32⟩ : BufTy).Contents (Elt F) := Host.reduceAdd x_v73 x_cst_10 reducesTo_S9216x8192_S9216_d1 h_S_
  let x_v75 : (⟨S9216x1, .f32⟩ : BufTy).Contents (Elt F) := broadcastInDim S9216x1 ![0] bcast_S9216_S9216x1_0 x_v74
  let x_v76 : (⟨S9216x8192, .f32⟩ : BufTy).Contents (Elt F) := broadcastInDim S9216x8192 ![0, 1] bcast_S9216x1_S9216x8192_0_1 x_v75
  Host.divf x_v73 x_v76

/-- What `main_v78` holds, of the buffers its stretch reads. -/
def f_v78 (x_v77 : (⟨S9216x8192, .f32⟩ : BufTy).Contents (Elt F)) : (⟨S9216, .i32⟩ : BufTy).Contents (Elt F) :=
  let x_call4_v0 : (⟨S9216x8192, .i32⟩ : BufTy).Contents (Elt F) := (iotaInDim S9216x8192 32 1)
  let x_call4_cst : (⟨S_, .f32⟩ : BufTy).Contents (Elt F) := (constant S_ .f32 0xFF800000#32)
  let x_call4_c : (⟨S_, .i32⟩ : BufTy).Contents (Elt F) := (constantI S_ 32 0#32)
  (fun x y u v j => (Host.argReduce reducer_argmax_f32_i32 x y u v reducesTo_S9216x8192_S9216_d1 h_S_ j).2) x_v77 x_call4_v0 x_call4_cst x_call4_c

/-- What `main_v86` holds, of the buffers its stretch reads. -/
def f_v86 (x_v78 : (⟨S9216, .i32⟩ : BufTy).Contents (Elt F)) : (⟨S16x576, .i32⟩ : BufTy).Contents (Elt F) :=
  shapeCast S16x576 x_v78 shapeCasts_S9216_S16x576

/-- What `main_v94` holds, of the buffers its stretch reads. -/
def f_v94 (x_arg9 : (⟨S768x64, .f32⟩ : BufTy).Contents (Elt F)) (x_arg10 : (⟨S768, .f32⟩ : BufTy).Contents (Elt F)) (x_v0 : (⟨S16x576x768, .f32⟩ : BufTy).Contents (Elt F)) (x_v48 : (⟨S8192x64, .f32⟩ : BufTy).Contents (Elt F)) (x_v77 : (⟨S9216x8192, .f32⟩ : BufTy).Contents (Elt F)) : (⟨S16x576x768, .f32⟩ : BufTy).Contents (Elt F) :=
  let x_v79 : (⟨S9216x64, .f32⟩ : BufTy).Contents (Elt F) := Host.dotGeneral dot_S9216x8192_S8192x64_S9216x64_1_0_0_1_n_n none x_v77 x_v48
  let x_v80 : (⟨S16x576x64, .f32⟩ : BufTy).Contents (Elt F) := shapeCast S16x576x64 x_v79 shapeCasts_S9216x64_S16x576x64
  let x_v81 : (⟨S64x768, .f32⟩ : BufTy).Contents (Elt F) := transpose S64x768 [1, 0] x_arg9 transposes_S768x64_S64x768_1_0
  let x_v82 : (⟨S16x576x768, .f32⟩ : BufTy).Contents (Elt F) := Host.dotGeneral dot_S16x576x64_S64x768_S16x576x768_2_0_01_1_n_n none x_v80 x_v81
  let x_v83 : (⟨S1x1x768, .f32⟩ : BufTy).Contents (Elt F) := broadcastInDim S1x1x768 ![2] bcast_S768_S1x1x768_2 x_arg10
  let x_v84 : (⟨S16x576x768, .f32⟩ : BufTy).Contents (Elt F) := broadcastInDim S16x576x768 ![0, 1, 2] bcast_S1x1x768_S16x576x768_0_1_2 x_v83
  let x_v85 : (⟨S16x576x768, .f32⟩ : BufTy).Contents (Elt F) := addf x_v82 x_v84
  let x_cst_11 : (⟨S_, .f32⟩ : BufTy).Contents (Elt F) := (constant S_ .f32 0x3F800000#32)
  let x_v87 : (⟨S16x1x1, .f32⟩ : BufTy).Contents (Elt F) := broadcastInDim S16x1x1 ![] bcast_S_S16x1x1 x_cst_11
  let x_cst_12 : (⟨S_, .f32⟩ : BufTy).Contents (Elt F) := (constant S_ .f32 0x3F800000#32)
  let x_v88 : (⟨S16x1x1, .f32⟩ : BufTy).Contents (Elt F) := broadcastInDim S16x1x1 ![] bcast_S_S16x1x1 x_cst_12
  let x_v89 : (⟨S16x1x1, .f32⟩ : BufTy).Contents (Elt F) := subf x_v88 x_v87
  let x_v90 : (⟨S16x576x768, .f32⟩ : BufTy).Contents (Elt F) := broadcastInDim S16x576x768 ![0, 1, 2] bcast_S16x1x1_S16x576x768_0_1_2 x_v89
  let x_v91 : (⟨S16x576x768, .f32⟩ : BufTy).Contents (Elt F) := mulf x_v85 x_v90
  let x_v92 : (⟨S16x576x768, .f32⟩ : BufTy).Contents (Elt F) := broadcastInDim S16x576x768 ![0, 1, 2] bcast_S16x1x1_S16x576x768_0_1_2 x_v87
  let x_v93 : (⟨S16x576x768, .f32⟩ : BufTy).Contents (Elt F) := mulf x_v0 x_v92
  addf x_v91 x_v93

/-- What `main_cst_13` holds, of the buffers its stretch reads. -/
def f_cst_13  : (⟨S_, .f32⟩ : BufTy).Contents (Elt F) :=
  (constant S_ .f32 0x00000000#32)

set_option maxRecDepth 8192 in
/-- After `wTok` the buffer `main_v0` holds `f_v0`. -/
theorem wTok_v0 (V : Valuation τ sig (Elt F)) :
    after wTok V (Proc.devRef .tc main_v0) = f_v0 (V (Proc.devRef .tc main_arg0)) := by
  simp only [wTok, TRef.quaternary, TRef.binary, TRef.nullary, TRef.unary, TRef.toBuf, TRef.ofBuf, cast_eq]; after_results_simp <;> rfl

set_option maxRecDepth 8192 in
/-- After `wTok` the buffer `main_v5` holds `f_v5`. -/
theorem wTok_v5 (V : Valuation τ sig (Elt F)) :
    after wTok V (Proc.devRef .tc main_v5) = f_v5 (V (Proc.devRef .tc main_arg0)) (V (Proc.devRef .tc main_arg7)) (V (Proc.devRef .tc main_arg8)) := by
  simp only [wTok, TRef.quaternary, TRef.binary, TRef.nullary, TRef.unary, TRef.toBuf, TRef.ofBuf, cast_eq]; after_results_simp <;> rfl

set_option maxRecDepth 8192 in
/-- After `wBit` the buffer `main_v21` holds `f_v21`. -/
theorem wBit_v21 (V : Valuation τ sig (Elt F)) :
    after wBit V (Proc.devRef .tc main_v21) = f_v21  := by
  simp only [wBit, TRef.quaternary, TRef.binary, TRef.nullary, TRef.unary, TRef.toBuf, TRef.ofBuf, cast_eq]; after_results_simp <;> rfl

set_option maxRecDepth 8192 in
/-- After `wEmb` the buffer `main_v38` holds `f_v38`. -/
theorem wEmb_v38 (V : Valuation τ sig (Elt F)) :
    after wEmb V (Proc.devRef .tc main_v38) = f_v38 (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_v21)) := by
  simp only [wEmb, TRef.quaternary, TRef.binary, TRef.nullary, TRef.unary, TRef.toBuf, TRef.ofBuf, cast_eq]; after_results_simp <;> rfl

set_option maxRecDepth 8192 in
/-- After `wNrmH` the buffer `main_v43` holds `f_v43`. -/
theorem wNrmH_v43 (V : Valuation τ sig (Elt F)) :
    after wNrmH V (Proc.devRef .tc main_v43) = f_v43 (V (Proc.devRef .tc main_v5)) := by
  simp only [wNrmH, TRef.quaternary, TRef.binary, TRef.nullary, TRef.unary, TRef.toBuf, TRef.ofBuf, cast_eq]; after_results_simp <;> rfl

set_option maxRecDepth 8192 in
/-- After `wNrmE` the buffer `main_v48` holds `f_v48`. -/
theorem wNrmE_v48 (V : Valuation τ sig (Elt F)) :
    after wNrmE V (Proc.devRef .tc main_v48) = f_v48 (V (Proc.devRef .tc main_v38)) := by
  simp only [wNrmE, TRef.quaternary, TRef.binary, TRef.nullary, TRef.unary, TRef.toBuf, TRef.ofBuf, cast_eq]; after_results_simp <;> rfl

set_option maxRecDepth 8192 in
/-- After `wDist` the buffer `main_v63` holds `f_v63`. -/
theorem wDist_v63 (V : Valuation τ sig (Elt F)) :
    after wDist V (Proc.devRef .tc main_v63) = f_v63 (V (Proc.devRef .tc main_v43)) (V (Proc.devRef .tc main_v48)) := by
  simp only [wDist, TRef.quaternary, TRef.binary, TRef.nullary, TRef.unary, TRef.toBuf, TRef.ofBuf, cast_eq]; after_results_simp <;> rfl

set_option maxRecDepth 8192 in
/-- After `wSoft` the buffer `main_v77` holds `f_v77`. -/
theorem wSoft_v77 (V : Valuation τ sig (Elt F)) :
    after wSoft V (Proc.devRef .tc main_v77) = f_v77 (V (Proc.devRef .tc main_v63)) := by
  simp only [wSoft, TRef.quaternary, TRef.binary, TRef.nullary, TRef.unary, TRef.toBuf, TRef.ofBuf, cast_eq]; after_results_simp <;> rfl

set_option maxRecDepth 8192 in
/-- After `wArg` the buffer `main_v78` holds `f_v78`. -/
theorem wArg_v78 (V : Valuation τ sig (Elt F)) :
    after wArg V (Proc.devRef .tc main_v78) = f_v78 (V (Proc.devRef .tc main_v77)) := by
  simp only [wArg, TRef.quaternary, TRef.binary, TRef.nullary, TRef.unary, TRef.toBuf, TRef.ofBuf, cast_eq]; after_results_simp <;> rfl

set_option maxRecDepth 8192 in
/-- After `wOut` the buffer `main_v86` holds `f_v86`. -/
theorem wOut_v86 (V : Valuation τ sig (Elt F)) :
    after wOut V (Proc.devRef .tc main_v86) = f_v86 (V (Proc.devRef .tc main_v78)) := by
  simp only [wOut, TRef.quaternary, TRef.binary, TRef.nullary, TRef.unary, TRef.toBuf, TRef.ofBuf, cast_eq]; after_results_simp <;> rfl

set_option maxRecDepth 8192 in
/-- After `wOut` the buffer `main_v94` holds `f_v94`. -/
theorem wOut_v94 (V : Valuation τ sig (Elt F)) :
    after wOut V (Proc.devRef .tc main_v94) = f_v94 (V (Proc.devRef .tc main_arg9)) (V (Proc.devRef .tc main_arg10)) (V (Proc.devRef .tc main_v0)) (V (Proc.devRef .tc main_v48)) (V (Proc.devRef .tc main_v77)) := by
  simp only [wOut, TRef.quaternary, TRef.binary, TRef.nullary, TRef.unary, TRef.toBuf, TRef.ofBuf, cast_eq]; after_results_simp <;> rfl

set_option maxRecDepth 8192 in
/-- After `wOut` the buffer `main_cst_13` holds `f_cst_13`. -/
theorem wOut_cst_13 (V : Valuation τ sig (Elt F)) :
    after wOut V (Proc.devRef .tc main_cst_13) = f_cst_13  := by
  simp only [wOut, TRef.quaternary, TRef.binary, TRef.nullary, TRef.unary, TRef.toBuf, TRef.ofBuf, cast_eq]; after_results_simp <;> rfl

set_option maxRecDepth 8192 in
/-- `wTok` leaves `main_arg0` alone. -/
theorem wTok_keep_arg0 (V : Valuation τ sig (Elt F)) :
    after wTok V (Proc.devRef .tc main_arg0) = V (Proc.devRef .tc main_arg0) := by
  simp only [wTok, TRef.quaternary, TRef.binary, TRef.nullary, TRef.unary, TRef.toBuf, TRef.ofBuf, cast_eq]; after_results_simp <;> rfl

set_option maxRecDepth 8192 in
/-- `wTok` leaves `main_arg1` alone. -/
theorem wTok_keep_arg1 (V : Valuation τ sig (Elt F)) :
    after wTok V (Proc.devRef .tc main_arg1) = V (Proc.devRef .tc main_arg1) := by
  simp only [wTok, TRef.quaternary, TRef.binary, TRef.nullary, TRef.unary, TRef.toBuf, TRef.ofBuf, cast_eq]; after_results_simp <;> rfl

set_option maxRecDepth 8192 in
/-- `wTok` leaves `main_arg2` alone. -/
theorem wTok_keep_arg2 (V : Valuation τ sig (Elt F)) :
    after wTok V (Proc.devRef .tc main_arg2) = V (Proc.devRef .tc main_arg2) := by
  simp only [wTok, TRef.quaternary, TRef.binary, TRef.nullary, TRef.unary, TRef.toBuf, TRef.ofBuf, cast_eq]; after_results_simp <;> rfl

set_option maxRecDepth 8192 in
/-- `wTok` leaves `main_arg3` alone. -/
theorem wTok_keep_arg3 (V : Valuation τ sig (Elt F)) :
    after wTok V (Proc.devRef .tc main_arg3) = V (Proc.devRef .tc main_arg3) := by
  simp only [wTok, TRef.quaternary, TRef.binary, TRef.nullary, TRef.unary, TRef.toBuf, TRef.ofBuf, cast_eq]; after_results_simp <;> rfl

set_option maxRecDepth 8192 in
/-- `wTok` leaves `main_arg4` alone. -/
theorem wTok_keep_arg4 (V : Valuation τ sig (Elt F)) :
    after wTok V (Proc.devRef .tc main_arg4) = V (Proc.devRef .tc main_arg4) := by
  simp only [wTok, TRef.quaternary, TRef.binary, TRef.nullary, TRef.unary, TRef.toBuf, TRef.ofBuf, cast_eq]; after_results_simp <;> rfl

set_option maxRecDepth 8192 in
/-- `wTok` leaves `main_arg5` alone. -/
theorem wTok_keep_arg5 (V : Valuation τ sig (Elt F)) :
    after wTok V (Proc.devRef .tc main_arg5) = V (Proc.devRef .tc main_arg5) := by
  simp only [wTok, TRef.quaternary, TRef.binary, TRef.nullary, TRef.unary, TRef.toBuf, TRef.ofBuf, cast_eq]; after_results_simp <;> rfl

set_option maxRecDepth 8192 in
/-- `wTok` leaves `main_arg6` alone. -/
theorem wTok_keep_arg6 (V : Valuation τ sig (Elt F)) :
    after wTok V (Proc.devRef .tc main_arg6) = V (Proc.devRef .tc main_arg6) := by
  simp only [wTok, TRef.quaternary, TRef.binary, TRef.nullary, TRef.unary, TRef.toBuf, TRef.ofBuf, cast_eq]; after_results_simp <;> rfl

set_option maxRecDepth 8192 in
/-- `wTok` leaves `main_arg7` alone. -/
theorem wTok_keep_arg7 (V : Valuation τ sig (Elt F)) :
    after wTok V (Proc.devRef .tc main_arg7) = V (Proc.devRef .tc main_arg7) := by
  simp only [wTok, TRef.quaternary, TRef.binary, TRef.nullary, TRef.unary, TRef.toBuf, TRef.ofBuf, cast_eq]; after_results_simp <;> rfl

set_option maxRecDepth 8192 in
/-- `wTok` leaves `main_arg8` alone. -/
theorem wTok_keep_arg8 (V : Valuation τ sig (Elt F)) :
    after wTok V (Proc.devRef .tc main_arg8) = V (Proc.devRef .tc main_arg8) := by
  simp only [wTok, TRef.quaternary, TRef.binary, TRef.nullary, TRef.unary, TRef.toBuf, TRef.ofBuf, cast_eq]; after_results_simp <;> rfl

set_option maxRecDepth 8192 in
/-- `wTok` leaves `main_arg9` alone. -/
theorem wTok_keep_arg9 (V : Valuation τ sig (Elt F)) :
    after wTok V (Proc.devRef .tc main_arg9) = V (Proc.devRef .tc main_arg9) := by
  simp only [wTok, TRef.quaternary, TRef.binary, TRef.nullary, TRef.unary, TRef.toBuf, TRef.ofBuf, cast_eq]; after_results_simp <;> rfl

set_option maxRecDepth 8192 in
/-- `wTok` leaves `main_arg10` alone. -/
theorem wTok_keep_arg10 (V : Valuation τ sig (Elt F)) :
    after wTok V (Proc.devRef .tc main_arg10) = V (Proc.devRef .tc main_arg10) := by
  simp only [wTok, TRef.quaternary, TRef.binary, TRef.nullary, TRef.unary, TRef.toBuf, TRef.ofBuf, cast_eq]; after_results_simp <;> rfl

set_option maxRecDepth 8192 in
/-- `wBit` leaves `main_arg0` alone. -/
theorem wBit_keep_arg0 (V : Valuation τ sig (Elt F)) :
    after wBit V (Proc.devRef .tc main_arg0) = V (Proc.devRef .tc main_arg0) := by
  simp only [wBit, TRef.quaternary, TRef.binary, TRef.nullary, TRef.unary, TRef.toBuf, TRef.ofBuf, cast_eq]; after_results_simp <;> rfl

set_option maxRecDepth 8192 in
/-- `wBit` leaves `main_arg1` alone. -/
theorem wBit_keep_arg1 (V : Valuation τ sig (Elt F)) :
    after wBit V (Proc.devRef .tc main_arg1) = V (Proc.devRef .tc main_arg1) := by
  simp only [wBit, TRef.quaternary, TRef.binary, TRef.nullary, TRef.unary, TRef.toBuf, TRef.ofBuf, cast_eq]; after_results_simp <;> rfl

set_option maxRecDepth 8192 in
/-- `wBit` leaves `main_arg2` alone. -/
theorem wBit_keep_arg2 (V : Valuation τ sig (Elt F)) :
    after wBit V (Proc.devRef .tc main_arg2) = V (Proc.devRef .tc main_arg2) := by
  simp only [wBit, TRef.quaternary, TRef.binary, TRef.nullary, TRef.unary, TRef.toBuf, TRef.ofBuf, cast_eq]; after_results_simp <;> rfl

set_option maxRecDepth 8192 in
/-- `wBit` leaves `main_arg3` alone. -/
theorem wBit_keep_arg3 (V : Valuation τ sig (Elt F)) :
    after wBit V (Proc.devRef .tc main_arg3) = V (Proc.devRef .tc main_arg3) := by
  simp only [wBit, TRef.quaternary, TRef.binary, TRef.nullary, TRef.unary, TRef.toBuf, TRef.ofBuf, cast_eq]; after_results_simp <;> rfl

set_option maxRecDepth 8192 in
/-- `wBit` leaves `main_arg4` alone. -/
theorem wBit_keep_arg4 (V : Valuation τ sig (Elt F)) :
    after wBit V (Proc.devRef .tc main_arg4) = V (Proc.devRef .tc main_arg4) := by
  simp only [wBit, TRef.quaternary, TRef.binary, TRef.nullary, TRef.unary, TRef.toBuf, TRef.ofBuf, cast_eq]; after_results_simp <;> rfl

set_option maxRecDepth 8192 in
/-- `wBit` leaves `main_arg5` alone. -/
theorem wBit_keep_arg5 (V : Valuation τ sig (Elt F)) :
    after wBit V (Proc.devRef .tc main_arg5) = V (Proc.devRef .tc main_arg5) := by
  simp only [wBit, TRef.quaternary, TRef.binary, TRef.nullary, TRef.unary, TRef.toBuf, TRef.ofBuf, cast_eq]; after_results_simp <;> rfl

set_option maxRecDepth 8192 in
/-- `wBit` leaves `main_arg6` alone. -/
theorem wBit_keep_arg6 (V : Valuation τ sig (Elt F)) :
    after wBit V (Proc.devRef .tc main_arg6) = V (Proc.devRef .tc main_arg6) := by
  simp only [wBit, TRef.quaternary, TRef.binary, TRef.nullary, TRef.unary, TRef.toBuf, TRef.ofBuf, cast_eq]; after_results_simp <;> rfl

set_option maxRecDepth 8192 in
/-- `wBit` leaves `main_arg7` alone. -/
theorem wBit_keep_arg7 (V : Valuation τ sig (Elt F)) :
    after wBit V (Proc.devRef .tc main_arg7) = V (Proc.devRef .tc main_arg7) := by
  simp only [wBit, TRef.quaternary, TRef.binary, TRef.nullary, TRef.unary, TRef.toBuf, TRef.ofBuf, cast_eq]; after_results_simp <;> rfl

set_option maxRecDepth 8192 in
/-- `wBit` leaves `main_arg8` alone. -/
theorem wBit_keep_arg8 (V : Valuation τ sig (Elt F)) :
    after wBit V (Proc.devRef .tc main_arg8) = V (Proc.devRef .tc main_arg8) := by
  simp only [wBit, TRef.quaternary, TRef.binary, TRef.nullary, TRef.unary, TRef.toBuf, TRef.ofBuf, cast_eq]; after_results_simp <;> rfl

set_option maxRecDepth 8192 in
/-- `wBit` leaves `main_arg9` alone. -/
theorem wBit_keep_arg9 (V : Valuation τ sig (Elt F)) :
    after wBit V (Proc.devRef .tc main_arg9) = V (Proc.devRef .tc main_arg9) := by
  simp only [wBit, TRef.quaternary, TRef.binary, TRef.nullary, TRef.unary, TRef.toBuf, TRef.ofBuf, cast_eq]; after_results_simp <;> rfl

set_option maxRecDepth 8192 in
/-- `wBit` leaves `main_arg10` alone. -/
theorem wBit_keep_arg10 (V : Valuation τ sig (Elt F)) :
    after wBit V (Proc.devRef .tc main_arg10) = V (Proc.devRef .tc main_arg10) := by
  simp only [wBit, TRef.quaternary, TRef.binary, TRef.nullary, TRef.unary, TRef.toBuf, TRef.ofBuf, cast_eq]; after_results_simp <;> rfl

set_option maxRecDepth 8192 in
/-- `wBit` leaves `main_v0` alone. -/
theorem wBit_keep_v0 (V : Valuation τ sig (Elt F)) :
    after wBit V (Proc.devRef .tc main_v0) = V (Proc.devRef .tc main_v0) := by
  simp only [wBit, TRef.quaternary, TRef.binary, TRef.nullary, TRef.unary, TRef.toBuf, TRef.ofBuf, cast_eq]; after_results_simp <;> rfl

set_option maxRecDepth 8192 in
/-- `wBit` leaves `main_v5` alone. -/
theorem wBit_keep_v5 (V : Valuation τ sig (Elt F)) :
    after wBit V (Proc.devRef .tc main_v5) = V (Proc.devRef .tc main_v5) := by
  simp only [wBit, TRef.quaternary, TRef.binary, TRef.nullary, TRef.unary, TRef.toBuf, TRef.ofBuf, cast_eq]; after_results_simp <;> rfl

set_option maxRecDepth 8192 in
/-- `wEmb` leaves `main_arg0` alone. -/
theorem wEmb_keep_arg0 (V : Valuation τ sig (Elt F)) :
    after wEmb V (Proc.devRef .tc main_arg0) = V (Proc.devRef .tc main_arg0) := by
  simp only [wEmb, TRef.quaternary, TRef.binary, TRef.nullary, TRef.unary, TRef.toBuf, TRef.ofBuf, cast_eq]; after_results_simp <;> rfl

set_option maxRecDepth 8192 in
/-- `wEmb` leaves `main_arg1` alone. -/
theorem wEmb_keep_arg1 (V : Valuation τ sig (Elt F)) :
    after wEmb V (Proc.devRef .tc main_arg1) = V (Proc.devRef .tc main_arg1) := by
  simp only [wEmb, TRef.quaternary, TRef.binary, TRef.nullary, TRef.unary, TRef.toBuf, TRef.ofBuf, cast_eq]; after_results_simp <;> rfl

set_option maxRecDepth 8192 in
/-- `wEmb` leaves `main_arg2` alone. -/
theorem wEmb_keep_arg2 (V : Valuation τ sig (Elt F)) :
    after wEmb V (Proc.devRef .tc main_arg2) = V (Proc.devRef .tc main_arg2) := by
  simp only [wEmb, TRef.quaternary, TRef.binary, TRef.nullary, TRef.unary, TRef.toBuf, TRef.ofBuf, cast_eq]; after_results_simp <;> rfl

set_option maxRecDepth 8192 in
/-- `wEmb` leaves `main_arg3` alone. -/
theorem wEmb_keep_arg3 (V : Valuation τ sig (Elt F)) :
    after wEmb V (Proc.devRef .tc main_arg3) = V (Proc.devRef .tc main_arg3) := by
  simp only [wEmb, TRef.quaternary, TRef.binary, TRef.nullary, TRef.unary, TRef.toBuf, TRef.ofBuf, cast_eq]; after_results_simp <;> rfl

set_option maxRecDepth 8192 in
/-- `wEmb` leaves `main_arg4` alone. -/
theorem wEmb_keep_arg4 (V : Valuation τ sig (Elt F)) :
    after wEmb V (Proc.devRef .tc main_arg4) = V (Proc.devRef .tc main_arg4) := by
  simp only [wEmb, TRef.quaternary, TRef.binary, TRef.nullary, TRef.unary, TRef.toBuf, TRef.ofBuf, cast_eq]; after_results_simp <;> rfl

set_option maxRecDepth 8192 in
/-- `wEmb` leaves `main_arg5` alone. -/
theorem wEmb_keep_arg5 (V : Valuation τ sig (Elt F)) :
    after wEmb V (Proc.devRef .tc main_arg5) = V (Proc.devRef .tc main_arg5) := by
  simp only [wEmb, TRef.quaternary, TRef.binary, TRef.nullary, TRef.unary, TRef.toBuf, TRef.ofBuf, cast_eq]; after_results_simp <;> rfl

set_option maxRecDepth 8192 in
/-- `wEmb` leaves `main_arg6` alone. -/
theorem wEmb_keep_arg6 (V : Valuation τ sig (Elt F)) :
    after wEmb V (Proc.devRef .tc main_arg6) = V (Proc.devRef .tc main_arg6) := by
  simp only [wEmb, TRef.quaternary, TRef.binary, TRef.nullary, TRef.unary, TRef.toBuf, TRef.ofBuf, cast_eq]; after_results_simp <;> rfl

set_option maxRecDepth 8192 in
/-- `wEmb` leaves `main_arg7` alone. -/
theorem wEmb_keep_arg7 (V : Valuation τ sig (Elt F)) :
    after wEmb V (Proc.devRef .tc main_arg7) = V (Proc.devRef .tc main_arg7) := by
  simp only [wEmb, TRef.quaternary, TRef.binary, TRef.nullary, TRef.unary, TRef.toBuf, TRef.ofBuf, cast_eq]; after_results_simp <;> rfl

set_option maxRecDepth 8192 in
/-- `wEmb` leaves `main_arg8` alone. -/
theorem wEmb_keep_arg8 (V : Valuation τ sig (Elt F)) :
    after wEmb V (Proc.devRef .tc main_arg8) = V (Proc.devRef .tc main_arg8) := by
  simp only [wEmb, TRef.quaternary, TRef.binary, TRef.nullary, TRef.unary, TRef.toBuf, TRef.ofBuf, cast_eq]; after_results_simp <;> rfl

set_option maxRecDepth 8192 in
/-- `wEmb` leaves `main_arg9` alone. -/
theorem wEmb_keep_arg9 (V : Valuation τ sig (Elt F)) :
    after wEmb V (Proc.devRef .tc main_arg9) = V (Proc.devRef .tc main_arg9) := by
  simp only [wEmb, TRef.quaternary, TRef.binary, TRef.nullary, TRef.unary, TRef.toBuf, TRef.ofBuf, cast_eq]; after_results_simp <;> rfl

set_option maxRecDepth 8192 in
/-- `wEmb` leaves `main_arg10` alone. -/
theorem wEmb_keep_arg10 (V : Valuation τ sig (Elt F)) :
    after wEmb V (Proc.devRef .tc main_arg10) = V (Proc.devRef .tc main_arg10) := by
  simp only [wEmb, TRef.quaternary, TRef.binary, TRef.nullary, TRef.unary, TRef.toBuf, TRef.ofBuf, cast_eq]; after_results_simp <;> rfl

set_option maxRecDepth 8192 in
/-- `wEmb` leaves `main_v0` alone. -/
theorem wEmb_keep_v0 (V : Valuation τ sig (Elt F)) :
    after wEmb V (Proc.devRef .tc main_v0) = V (Proc.devRef .tc main_v0) := by
  simp only [wEmb, TRef.quaternary, TRef.binary, TRef.nullary, TRef.unary, TRef.toBuf, TRef.ofBuf, cast_eq]; after_results_simp <;> rfl

set_option maxRecDepth 8192 in
/-- `wEmb` leaves `main_v5` alone. -/
theorem wEmb_keep_v5 (V : Valuation τ sig (Elt F)) :
    after wEmb V (Proc.devRef .tc main_v5) = V (Proc.devRef .tc main_v5) := by
  simp only [wEmb, TRef.quaternary, TRef.binary, TRef.nullary, TRef.unary, TRef.toBuf, TRef.ofBuf, cast_eq]; after_results_simp <;> rfl

set_option maxRecDepth 8192 in
/-- `wNrmH` leaves `main_arg0` alone. -/
theorem wNrmH_keep_arg0 (V : Valuation τ sig (Elt F)) :
    after wNrmH V (Proc.devRef .tc main_arg0) = V (Proc.devRef .tc main_arg0) := by
  simp only [wNrmH, TRef.quaternary, TRef.binary, TRef.nullary, TRef.unary, TRef.toBuf, TRef.ofBuf, cast_eq]; after_results_simp <;> rfl

set_option maxRecDepth 8192 in
/-- `wNrmH` leaves `main_arg1` alone. -/
theorem wNrmH_keep_arg1 (V : Valuation τ sig (Elt F)) :
    after wNrmH V (Proc.devRef .tc main_arg1) = V (Proc.devRef .tc main_arg1) := by
  simp only [wNrmH, TRef.quaternary, TRef.binary, TRef.nullary, TRef.unary, TRef.toBuf, TRef.ofBuf, cast_eq]; after_results_simp <;> rfl

set_option maxRecDepth 8192 in
/-- `wNrmH` leaves `main_arg2` alone. -/
theorem wNrmH_keep_arg2 (V : Valuation τ sig (Elt F)) :
    after wNrmH V (Proc.devRef .tc main_arg2) = V (Proc.devRef .tc main_arg2) := by
  simp only [wNrmH, TRef.quaternary, TRef.binary, TRef.nullary, TRef.unary, TRef.toBuf, TRef.ofBuf, cast_eq]; after_results_simp <;> rfl

set_option maxRecDepth 8192 in
/-- `wNrmH` leaves `main_arg3` alone. -/
theorem wNrmH_keep_arg3 (V : Valuation τ sig (Elt F)) :
    after wNrmH V (Proc.devRef .tc main_arg3) = V (Proc.devRef .tc main_arg3) := by
  simp only [wNrmH, TRef.quaternary, TRef.binary, TRef.nullary, TRef.unary, TRef.toBuf, TRef.ofBuf, cast_eq]; after_results_simp <;> rfl

set_option maxRecDepth 8192 in
/-- `wNrmH` leaves `main_arg4` alone. -/
theorem wNrmH_keep_arg4 (V : Valuation τ sig (Elt F)) :
    after wNrmH V (Proc.devRef .tc main_arg4) = V (Proc.devRef .tc main_arg4) := by
  simp only [wNrmH, TRef.quaternary, TRef.binary, TRef.nullary, TRef.unary, TRef.toBuf, TRef.ofBuf, cast_eq]; after_results_simp <;> rfl

set_option maxRecDepth 8192 in
/-- `wNrmH` leaves `main_arg5` alone. -/
theorem wNrmH_keep_arg5 (V : Valuation τ sig (Elt F)) :
    after wNrmH V (Proc.devRef .tc main_arg5) = V (Proc.devRef .tc main_arg5) := by
  simp only [wNrmH, TRef.quaternary, TRef.binary, TRef.nullary, TRef.unary, TRef.toBuf, TRef.ofBuf, cast_eq]; after_results_simp <;> rfl

set_option maxRecDepth 8192 in
/-- `wNrmH` leaves `main_arg6` alone. -/
theorem wNrmH_keep_arg6 (V : Valuation τ sig (Elt F)) :
    after wNrmH V (Proc.devRef .tc main_arg6) = V (Proc.devRef .tc main_arg6) := by
  simp only [wNrmH, TRef.quaternary, TRef.binary, TRef.nullary, TRef.unary, TRef.toBuf, TRef.ofBuf, cast_eq]; after_results_simp <;> rfl

set_option maxRecDepth 8192 in
/-- `wNrmH` leaves `main_arg7` alone. -/
theorem wNrmH_keep_arg7 (V : Valuation τ sig (Elt F)) :
    after wNrmH V (Proc.devRef .tc main_arg7) = V (Proc.devRef .tc main_arg7) := by
  simp only [wNrmH, TRef.quaternary, TRef.binary, TRef.nullary, TRef.unary, TRef.toBuf, TRef.ofBuf, cast_eq]; after_results_simp <;> rfl

set_option maxRecDepth 8192 in
/-- `wNrmH` leaves `main_arg8` alone. -/
theorem wNrmH_keep_arg8 (V : Valuation τ sig (Elt F)) :
    after wNrmH V (Proc.devRef .tc main_arg8) = V (Proc.devRef .tc main_arg8) := by
  simp only [wNrmH, TRef.quaternary, TRef.binary, TRef.nullary, TRef.unary, TRef.toBuf, TRef.ofBuf, cast_eq]; after_results_simp <;> rfl

set_option maxRecDepth 8192 in
/-- `wNrmH` leaves `main_arg9` alone. -/
theorem wNrmH_keep_arg9 (V : Valuation τ sig (Elt F)) :
    after wNrmH V (Proc.devRef .tc main_arg9) = V (Proc.devRef .tc main_arg9) := by
  simp only [wNrmH, TRef.quaternary, TRef.binary, TRef.nullary, TRef.unary, TRef.toBuf, TRef.ofBuf, cast_eq]; after_results_simp <;> rfl

set_option maxRecDepth 8192 in
/-- `wNrmH` leaves `main_arg10` alone. -/
theorem wNrmH_keep_arg10 (V : Valuation τ sig (Elt F)) :
    after wNrmH V (Proc.devRef .tc main_arg10) = V (Proc.devRef .tc main_arg10) := by
  simp only [wNrmH, TRef.quaternary, TRef.binary, TRef.nullary, TRef.unary, TRef.toBuf, TRef.ofBuf, cast_eq]; after_results_simp <;> rfl

set_option maxRecDepth 8192 in
/-- `wNrmH` leaves `main_v0` alone. -/
theorem wNrmH_keep_v0 (V : Valuation τ sig (Elt F)) :
    after wNrmH V (Proc.devRef .tc main_v0) = V (Proc.devRef .tc main_v0) := by
  simp only [wNrmH, TRef.quaternary, TRef.binary, TRef.nullary, TRef.unary, TRef.toBuf, TRef.ofBuf, cast_eq]; after_results_simp <;> rfl

set_option maxRecDepth 8192 in
/-- `wNrmH` leaves `main_v38` alone. -/
theorem wNrmH_keep_v38 (V : Valuation τ sig (Elt F)) :
    after wNrmH V (Proc.devRef .tc main_v38) = V (Proc.devRef .tc main_v38) := by
  simp only [wNrmH, TRef.quaternary, TRef.binary, TRef.nullary, TRef.unary, TRef.toBuf, TRef.ofBuf, cast_eq]; after_results_simp <;> rfl

set_option maxRecDepth 8192 in
/-- `wNrmE` leaves `main_arg0` alone. -/
theorem wNrmE_keep_arg0 (V : Valuation τ sig (Elt F)) :
    after wNrmE V (Proc.devRef .tc main_arg0) = V (Proc.devRef .tc main_arg0) := by
  simp only [wNrmE, TRef.quaternary, TRef.binary, TRef.nullary, TRef.unary, TRef.toBuf, TRef.ofBuf, cast_eq]; after_results_simp <;> rfl

set_option maxRecDepth 8192 in
/-- `wNrmE` leaves `main_arg1` alone. -/
theorem wNrmE_keep_arg1 (V : Valuation τ sig (Elt F)) :
    after wNrmE V (Proc.devRef .tc main_arg1) = V (Proc.devRef .tc main_arg1) := by
  simp only [wNrmE, TRef.quaternary, TRef.binary, TRef.nullary, TRef.unary, TRef.toBuf, TRef.ofBuf, cast_eq]; after_results_simp <;> rfl

set_option maxRecDepth 8192 in
/-- `wNrmE` leaves `main_arg2` alone. -/
theorem wNrmE_keep_arg2 (V : Valuation τ sig (Elt F)) :
    after wNrmE V (Proc.devRef .tc main_arg2) = V (Proc.devRef .tc main_arg2) := by
  simp only [wNrmE, TRef.quaternary, TRef.binary, TRef.nullary, TRef.unary, TRef.toBuf, TRef.ofBuf, cast_eq]; after_results_simp <;> rfl

set_option maxRecDepth 8192 in
/-- `wNrmE` leaves `main_arg3` alone. -/
theorem wNrmE_keep_arg3 (V : Valuation τ sig (Elt F)) :
    after wNrmE V (Proc.devRef .tc main_arg3) = V (Proc.devRef .tc main_arg3) := by
  simp only [wNrmE, TRef.quaternary, TRef.binary, TRef.nullary, TRef.unary, TRef.toBuf, TRef.ofBuf, cast_eq]; after_results_simp <;> rfl

set_option maxRecDepth 8192 in
/-- `wNrmE` leaves `main_arg4` alone. -/
theorem wNrmE_keep_arg4 (V : Valuation τ sig (Elt F)) :
    after wNrmE V (Proc.devRef .tc main_arg4) = V (Proc.devRef .tc main_arg4) := by
  simp only [wNrmE, TRef.quaternary, TRef.binary, TRef.nullary, TRef.unary, TRef.toBuf, TRef.ofBuf, cast_eq]; after_results_simp <;> rfl

set_option maxRecDepth 8192 in
/-- `wNrmE` leaves `main_arg5` alone. -/
theorem wNrmE_keep_arg5 (V : Valuation τ sig (Elt F)) :
    after wNrmE V (Proc.devRef .tc main_arg5) = V (Proc.devRef .tc main_arg5) := by
  simp only [wNrmE, TRef.quaternary, TRef.binary, TRef.nullary, TRef.unary, TRef.toBuf, TRef.ofBuf, cast_eq]; after_results_simp <;> rfl

set_option maxRecDepth 8192 in
/-- `wNrmE` leaves `main_arg6` alone. -/
theorem wNrmE_keep_arg6 (V : Valuation τ sig (Elt F)) :
    after wNrmE V (Proc.devRef .tc main_arg6) = V (Proc.devRef .tc main_arg6) := by
  simp only [wNrmE, TRef.quaternary, TRef.binary, TRef.nullary, TRef.unary, TRef.toBuf, TRef.ofBuf, cast_eq]; after_results_simp <;> rfl

set_option maxRecDepth 8192 in
/-- `wNrmE` leaves `main_arg7` alone. -/
theorem wNrmE_keep_arg7 (V : Valuation τ sig (Elt F)) :
    after wNrmE V (Proc.devRef .tc main_arg7) = V (Proc.devRef .tc main_arg7) := by
  simp only [wNrmE, TRef.quaternary, TRef.binary, TRef.nullary, TRef.unary, TRef.toBuf, TRef.ofBuf, cast_eq]; after_results_simp <;> rfl

set_option maxRecDepth 8192 in
/-- `wNrmE` leaves `main_arg8` alone. -/
theorem wNrmE_keep_arg8 (V : Valuation τ sig (Elt F)) :
    after wNrmE V (Proc.devRef .tc main_arg8) = V (Proc.devRef .tc main_arg8) := by
  simp only [wNrmE, TRef.quaternary, TRef.binary, TRef.nullary, TRef.unary, TRef.toBuf, TRef.ofBuf, cast_eq]; after_results_simp <;> rfl

set_option maxRecDepth 8192 in
/-- `wNrmE` leaves `main_arg9` alone. -/
theorem wNrmE_keep_arg9 (V : Valuation τ sig (Elt F)) :
    after wNrmE V (Proc.devRef .tc main_arg9) = V (Proc.devRef .tc main_arg9) := by
  simp only [wNrmE, TRef.quaternary, TRef.binary, TRef.nullary, TRef.unary, TRef.toBuf, TRef.ofBuf, cast_eq]; after_results_simp <;> rfl

set_option maxRecDepth 8192 in
/-- `wNrmE` leaves `main_arg10` alone. -/
theorem wNrmE_keep_arg10 (V : Valuation τ sig (Elt F)) :
    after wNrmE V (Proc.devRef .tc main_arg10) = V (Proc.devRef .tc main_arg10) := by
  simp only [wNrmE, TRef.quaternary, TRef.binary, TRef.nullary, TRef.unary, TRef.toBuf, TRef.ofBuf, cast_eq]; after_results_simp <;> rfl

set_option maxRecDepth 8192 in
/-- `wNrmE` leaves `main_v0` alone. -/
theorem wNrmE_keep_v0 (V : Valuation τ sig (Elt F)) :
    after wNrmE V (Proc.devRef .tc main_v0) = V (Proc.devRef .tc main_v0) := by
  simp only [wNrmE, TRef.quaternary, TRef.binary, TRef.nullary, TRef.unary, TRef.toBuf, TRef.ofBuf, cast_eq]; after_results_simp <;> rfl

set_option maxRecDepth 8192 in
/-- `wNrmE` leaves `main_v43` alone. -/
theorem wNrmE_keep_v43 (V : Valuation τ sig (Elt F)) :
    after wNrmE V (Proc.devRef .tc main_v43) = V (Proc.devRef .tc main_v43) := by
  simp only [wNrmE, TRef.quaternary, TRef.binary, TRef.nullary, TRef.unary, TRef.toBuf, TRef.ofBuf, cast_eq]; after_results_simp <;> rfl

set_option maxRecDepth 8192 in
/-- `wDist` leaves `main_arg0` alone. -/
theorem wDist_keep_arg0 (V : Valuation τ sig (Elt F)) :
    after wDist V (Proc.devRef .tc main_arg0) = V (Proc.devRef .tc main_arg0) := by
  simp only [wDist, TRef.quaternary, TRef.binary, TRef.nullary, TRef.unary, TRef.toBuf, TRef.ofBuf, cast_eq]; after_results_simp <;> rfl

set_option maxRecDepth 8192 in
/-- `wDist` leaves `main_arg1` alone. -/
theorem wDist_keep_arg1 (V : Valuation τ sig (Elt F)) :
    after wDist V (Proc.devRef .tc main_arg1) = V (Proc.devRef .tc main_arg1) := by
  simp only [wDist, TRef.quaternary, TRef.binary, TRef.nullary, TRef.unary, TRef.toBuf, TRef.ofBuf, cast_eq]; after_results_simp <;> rfl

set_option maxRecDepth 8192 in
/-- `wDist` leaves `main_arg2` alone. -/
theorem wDist_keep_arg2 (V : Valuation τ sig (Elt F)) :
    after wDist V (Proc.devRef .tc main_arg2) = V (Proc.devRef .tc main_arg2) := by
  simp only [wDist, TRef.quaternary, TRef.binary, TRef.nullary, TRef.unary, TRef.toBuf, TRef.ofBuf, cast_eq]; after_results_simp <;> rfl

set_option maxRecDepth 8192 in
/-- `wDist` leaves `main_arg3` alone. -/
theorem wDist_keep_arg3 (V : Valuation τ sig (Elt F)) :
    after wDist V (Proc.devRef .tc main_arg3) = V (Proc.devRef .tc main_arg3) := by
  simp only [wDist, TRef.quaternary, TRef.binary, TRef.nullary, TRef.unary, TRef.toBuf, TRef.ofBuf, cast_eq]; after_results_simp <;> rfl

set_option maxRecDepth 8192 in
/-- `wDist` leaves `main_arg4` alone. -/
theorem wDist_keep_arg4 (V : Valuation τ sig (Elt F)) :
    after wDist V (Proc.devRef .tc main_arg4) = V (Proc.devRef .tc main_arg4) := by
  simp only [wDist, TRef.quaternary, TRef.binary, TRef.nullary, TRef.unary, TRef.toBuf, TRef.ofBuf, cast_eq]; after_results_simp <;> rfl

set_option maxRecDepth 8192 in
/-- `wDist` leaves `main_arg5` alone. -/
theorem wDist_keep_arg5 (V : Valuation τ sig (Elt F)) :
    after wDist V (Proc.devRef .tc main_arg5) = V (Proc.devRef .tc main_arg5) := by
  simp only [wDist, TRef.quaternary, TRef.binary, TRef.nullary, TRef.unary, TRef.toBuf, TRef.ofBuf, cast_eq]; after_results_simp <;> rfl

set_option maxRecDepth 8192 in
/-- `wDist` leaves `main_arg6` alone. -/
theorem wDist_keep_arg6 (V : Valuation τ sig (Elt F)) :
    after wDist V (Proc.devRef .tc main_arg6) = V (Proc.devRef .tc main_arg6) := by
  simp only [wDist, TRef.quaternary, TRef.binary, TRef.nullary, TRef.unary, TRef.toBuf, TRef.ofBuf, cast_eq]; after_results_simp <;> rfl

set_option maxRecDepth 8192 in
/-- `wDist` leaves `main_arg7` alone. -/
theorem wDist_keep_arg7 (V : Valuation τ sig (Elt F)) :
    after wDist V (Proc.devRef .tc main_arg7) = V (Proc.devRef .tc main_arg7) := by
  simp only [wDist, TRef.quaternary, TRef.binary, TRef.nullary, TRef.unary, TRef.toBuf, TRef.ofBuf, cast_eq]; after_results_simp <;> rfl

set_option maxRecDepth 8192 in
/-- `wDist` leaves `main_arg8` alone. -/
theorem wDist_keep_arg8 (V : Valuation τ sig (Elt F)) :
    after wDist V (Proc.devRef .tc main_arg8) = V (Proc.devRef .tc main_arg8) := by
  simp only [wDist, TRef.quaternary, TRef.binary, TRef.nullary, TRef.unary, TRef.toBuf, TRef.ofBuf, cast_eq]; after_results_simp <;> rfl

set_option maxRecDepth 8192 in
/-- `wDist` leaves `main_arg9` alone. -/
theorem wDist_keep_arg9 (V : Valuation τ sig (Elt F)) :
    after wDist V (Proc.devRef .tc main_arg9) = V (Proc.devRef .tc main_arg9) := by
  simp only [wDist, TRef.quaternary, TRef.binary, TRef.nullary, TRef.unary, TRef.toBuf, TRef.ofBuf, cast_eq]; after_results_simp <;> rfl

set_option maxRecDepth 8192 in
/-- `wDist` leaves `main_arg10` alone. -/
theorem wDist_keep_arg10 (V : Valuation τ sig (Elt F)) :
    after wDist V (Proc.devRef .tc main_arg10) = V (Proc.devRef .tc main_arg10) := by
  simp only [wDist, TRef.quaternary, TRef.binary, TRef.nullary, TRef.unary, TRef.toBuf, TRef.ofBuf, cast_eq]; after_results_simp <;> rfl

set_option maxRecDepth 8192 in
/-- `wDist` leaves `main_v0` alone. -/
theorem wDist_keep_v0 (V : Valuation τ sig (Elt F)) :
    after wDist V (Proc.devRef .tc main_v0) = V (Proc.devRef .tc main_v0) := by
  simp only [wDist, TRef.quaternary, TRef.binary, TRef.nullary, TRef.unary, TRef.toBuf, TRef.ofBuf, cast_eq]; after_results_simp <;> rfl

set_option maxRecDepth 8192 in
/-- `wDist` leaves `main_v48` alone. -/
theorem wDist_keep_v48 (V : Valuation τ sig (Elt F)) :
    after wDist V (Proc.devRef .tc main_v48) = V (Proc.devRef .tc main_v48) := by
  simp only [wDist, TRef.quaternary, TRef.binary, TRef.nullary, TRef.unary, TRef.toBuf, TRef.ofBuf, cast_eq]; after_results_simp <;> rfl

set_option maxRecDepth 8192 in
/-- `wSoft` leaves `main_arg0` alone. -/
theorem wSoft_keep_arg0 (V : Valuation τ sig (Elt F)) :
    after wSoft V (Proc.devRef .tc main_arg0) = V (Proc.devRef .tc main_arg0) := by
  simp only [wSoft, TRef.quaternary, TRef.binary, TRef.nullary, TRef.unary, TRef.toBuf, TRef.ofBuf, cast_eq]; after_results_simp <;> rfl

set_option maxRecDepth 8192 in
/-- `wSoft` leaves `main_arg1` alone. -/
theorem wSoft_keep_arg1 (V : Valuation τ sig (Elt F)) :
    after wSoft V (Proc.devRef .tc main_arg1) = V (Proc.devRef .tc main_arg1) := by
  simp only [wSoft, TRef.quaternary, TRef.binary, TRef.nullary, TRef.unary, TRef.toBuf, TRef.ofBuf, cast_eq]; after_results_simp <;> rfl

set_option maxRecDepth 8192 in
/-- `wSoft` leaves `main_arg2` alone. -/
theorem wSoft_keep_arg2 (V : Valuation τ sig (Elt F)) :
    after wSoft V (Proc.devRef .tc main_arg2) = V (Proc.devRef .tc main_arg2) := by
  simp only [wSoft, TRef.quaternary, TRef.binary, TRef.nullary, TRef.unary, TRef.toBuf, TRef.ofBuf, cast_eq]; after_results_simp <;> rfl

set_option maxRecDepth 8192 in
/-- `wSoft` leaves `main_arg3` alone. -/
theorem wSoft_keep_arg3 (V : Valuation τ sig (Elt F)) :
    after wSoft V (Proc.devRef .tc main_arg3) = V (Proc.devRef .tc main_arg3) := by
  simp only [wSoft, TRef.quaternary, TRef.binary, TRef.nullary, TRef.unary, TRef.toBuf, TRef.ofBuf, cast_eq]; after_results_simp <;> rfl

set_option maxRecDepth 8192 in
/-- `wSoft` leaves `main_arg4` alone. -/
theorem wSoft_keep_arg4 (V : Valuation τ sig (Elt F)) :
    after wSoft V (Proc.devRef .tc main_arg4) = V (Proc.devRef .tc main_arg4) := by
  simp only [wSoft, TRef.quaternary, TRef.binary, TRef.nullary, TRef.unary, TRef.toBuf, TRef.ofBuf, cast_eq]; after_results_simp <;> rfl

set_option maxRecDepth 8192 in
/-- `wSoft` leaves `main_arg5` alone. -/
theorem wSoft_keep_arg5 (V : Valuation τ sig (Elt F)) :
    after wSoft V (Proc.devRef .tc main_arg5) = V (Proc.devRef .tc main_arg5) := by
  simp only [wSoft, TRef.quaternary, TRef.binary, TRef.nullary, TRef.unary, TRef.toBuf, TRef.ofBuf, cast_eq]; after_results_simp <;> rfl

set_option maxRecDepth 8192 in
/-- `wSoft` leaves `main_arg6` alone. -/
theorem wSoft_keep_arg6 (V : Valuation τ sig (Elt F)) :
    after wSoft V (Proc.devRef .tc main_arg6) = V (Proc.devRef .tc main_arg6) := by
  simp only [wSoft, TRef.quaternary, TRef.binary, TRef.nullary, TRef.unary, TRef.toBuf, TRef.ofBuf, cast_eq]; after_results_simp <;> rfl

set_option maxRecDepth 8192 in
/-- `wSoft` leaves `main_arg7` alone. -/
theorem wSoft_keep_arg7 (V : Valuation τ sig (Elt F)) :
    after wSoft V (Proc.devRef .tc main_arg7) = V (Proc.devRef .tc main_arg7) := by
  simp only [wSoft, TRef.quaternary, TRef.binary, TRef.nullary, TRef.unary, TRef.toBuf, TRef.ofBuf, cast_eq]; after_results_simp <;> rfl

set_option maxRecDepth 8192 in
/-- `wSoft` leaves `main_arg8` alone. -/
theorem wSoft_keep_arg8 (V : Valuation τ sig (Elt F)) :
    after wSoft V (Proc.devRef .tc main_arg8) = V (Proc.devRef .tc main_arg8) := by
  simp only [wSoft, TRef.quaternary, TRef.binary, TRef.nullary, TRef.unary, TRef.toBuf, TRef.ofBuf, cast_eq]; after_results_simp <;> rfl

set_option maxRecDepth 8192 in
/-- `wSoft` leaves `main_arg9` alone. -/
theorem wSoft_keep_arg9 (V : Valuation τ sig (Elt F)) :
    after wSoft V (Proc.devRef .tc main_arg9) = V (Proc.devRef .tc main_arg9) := by
  simp only [wSoft, TRef.quaternary, TRef.binary, TRef.nullary, TRef.unary, TRef.toBuf, TRef.ofBuf, cast_eq]; after_results_simp <;> rfl

set_option maxRecDepth 8192 in
/-- `wSoft` leaves `main_arg10` alone. -/
theorem wSoft_keep_arg10 (V : Valuation τ sig (Elt F)) :
    after wSoft V (Proc.devRef .tc main_arg10) = V (Proc.devRef .tc main_arg10) := by
  simp only [wSoft, TRef.quaternary, TRef.binary, TRef.nullary, TRef.unary, TRef.toBuf, TRef.ofBuf, cast_eq]; after_results_simp <;> rfl

set_option maxRecDepth 8192 in
/-- `wSoft` leaves `main_v0` alone. -/
theorem wSoft_keep_v0 (V : Valuation τ sig (Elt F)) :
    after wSoft V (Proc.devRef .tc main_v0) = V (Proc.devRef .tc main_v0) := by
  simp only [wSoft, TRef.quaternary, TRef.binary, TRef.nullary, TRef.unary, TRef.toBuf, TRef.ofBuf, cast_eq]; after_results_simp <;> rfl

set_option maxRecDepth 8192 in
/-- `wSoft` leaves `main_v48` alone. -/
theorem wSoft_keep_v48 (V : Valuation τ sig (Elt F)) :
    after wSoft V (Proc.devRef .tc main_v48) = V (Proc.devRef .tc main_v48) := by
  simp only [wSoft, TRef.quaternary, TRef.binary, TRef.nullary, TRef.unary, TRef.toBuf, TRef.ofBuf, cast_eq]; after_results_simp <;> rfl

set_option maxRecDepth 8192 in
/-- `wArg` leaves `main_arg0` alone. -/
theorem wArg_keep_arg0 (V : Valuation τ sig (Elt F)) :
    after wArg V (Proc.devRef .tc main_arg0) = V (Proc.devRef .tc main_arg0) := by
  simp only [wArg, TRef.quaternary, TRef.binary, TRef.nullary, TRef.unary, TRef.toBuf, TRef.ofBuf, cast_eq]; after_results_simp <;> rfl

set_option maxRecDepth 8192 in
/-- `wArg` leaves `main_arg1` alone. -/
theorem wArg_keep_arg1 (V : Valuation τ sig (Elt F)) :
    after wArg V (Proc.devRef .tc main_arg1) = V (Proc.devRef .tc main_arg1) := by
  simp only [wArg, TRef.quaternary, TRef.binary, TRef.nullary, TRef.unary, TRef.toBuf, TRef.ofBuf, cast_eq]; after_results_simp <;> rfl

set_option maxRecDepth 8192 in
/-- `wArg` leaves `main_arg2` alone. -/
theorem wArg_keep_arg2 (V : Valuation τ sig (Elt F)) :
    after wArg V (Proc.devRef .tc main_arg2) = V (Proc.devRef .tc main_arg2) := by
  simp only [wArg, TRef.quaternary, TRef.binary, TRef.nullary, TRef.unary, TRef.toBuf, TRef.ofBuf, cast_eq]; after_results_simp <;> rfl

set_option maxRecDepth 8192 in
/-- `wArg` leaves `main_arg3` alone. -/
theorem wArg_keep_arg3 (V : Valuation τ sig (Elt F)) :
    after wArg V (Proc.devRef .tc main_arg3) = V (Proc.devRef .tc main_arg3) := by
  simp only [wArg, TRef.quaternary, TRef.binary, TRef.nullary, TRef.unary, TRef.toBuf, TRef.ofBuf, cast_eq]; after_results_simp <;> rfl

set_option maxRecDepth 8192 in
/-- `wArg` leaves `main_arg4` alone. -/
theorem wArg_keep_arg4 (V : Valuation τ sig (Elt F)) :
    after wArg V (Proc.devRef .tc main_arg4) = V (Proc.devRef .tc main_arg4) := by
  simp only [wArg, TRef.quaternary, TRef.binary, TRef.nullary, TRef.unary, TRef.toBuf, TRef.ofBuf, cast_eq]; after_results_simp <;> rfl

set_option maxRecDepth 8192 in
/-- `wArg` leaves `main_arg5` alone. -/
theorem wArg_keep_arg5 (V : Valuation τ sig (Elt F)) :
    after wArg V (Proc.devRef .tc main_arg5) = V (Proc.devRef .tc main_arg5) := by
  simp only [wArg, TRef.quaternary, TRef.binary, TRef.nullary, TRef.unary, TRef.toBuf, TRef.ofBuf, cast_eq]; after_results_simp <;> rfl

set_option maxRecDepth 8192 in
/-- `wArg` leaves `main_arg6` alone. -/
theorem wArg_keep_arg6 (V : Valuation τ sig (Elt F)) :
    after wArg V (Proc.devRef .tc main_arg6) = V (Proc.devRef .tc main_arg6) := by
  simp only [wArg, TRef.quaternary, TRef.binary, TRef.nullary, TRef.unary, TRef.toBuf, TRef.ofBuf, cast_eq]; after_results_simp <;> rfl

set_option maxRecDepth 8192 in
/-- `wArg` leaves `main_arg7` alone. -/
theorem wArg_keep_arg7 (V : Valuation τ sig (Elt F)) :
    after wArg V (Proc.devRef .tc main_arg7) = V (Proc.devRef .tc main_arg7) := by
  simp only [wArg, TRef.quaternary, TRef.binary, TRef.nullary, TRef.unary, TRef.toBuf, TRef.ofBuf, cast_eq]; after_results_simp <;> rfl

set_option maxRecDepth 8192 in
/-- `wArg` leaves `main_arg8` alone. -/
theorem wArg_keep_arg8 (V : Valuation τ sig (Elt F)) :
    after wArg V (Proc.devRef .tc main_arg8) = V (Proc.devRef .tc main_arg8) := by
  simp only [wArg, TRef.quaternary, TRef.binary, TRef.nullary, TRef.unary, TRef.toBuf, TRef.ofBuf, cast_eq]; after_results_simp <;> rfl

set_option maxRecDepth 8192 in
/-- `wArg` leaves `main_arg9` alone. -/
theorem wArg_keep_arg9 (V : Valuation τ sig (Elt F)) :
    after wArg V (Proc.devRef .tc main_arg9) = V (Proc.devRef .tc main_arg9) := by
  simp only [wArg, TRef.quaternary, TRef.binary, TRef.nullary, TRef.unary, TRef.toBuf, TRef.ofBuf, cast_eq]; after_results_simp <;> rfl

set_option maxRecDepth 8192 in
/-- `wArg` leaves `main_arg10` alone. -/
theorem wArg_keep_arg10 (V : Valuation τ sig (Elt F)) :
    after wArg V (Proc.devRef .tc main_arg10) = V (Proc.devRef .tc main_arg10) := by
  simp only [wArg, TRef.quaternary, TRef.binary, TRef.nullary, TRef.unary, TRef.toBuf, TRef.ofBuf, cast_eq]; after_results_simp <;> rfl

set_option maxRecDepth 8192 in
/-- `wArg` leaves `main_v0` alone. -/
theorem wArg_keep_v0 (V : Valuation τ sig (Elt F)) :
    after wArg V (Proc.devRef .tc main_v0) = V (Proc.devRef .tc main_v0) := by
  simp only [wArg, TRef.quaternary, TRef.binary, TRef.nullary, TRef.unary, TRef.toBuf, TRef.ofBuf, cast_eq]; after_results_simp <;> rfl

set_option maxRecDepth 8192 in
/-- `wArg` leaves `main_v48` alone. -/
theorem wArg_keep_v48 (V : Valuation τ sig (Elt F)) :
    after wArg V (Proc.devRef .tc main_v48) = V (Proc.devRef .tc main_v48) := by
  simp only [wArg, TRef.quaternary, TRef.binary, TRef.nullary, TRef.unary, TRef.toBuf, TRef.ofBuf, cast_eq]; after_results_simp <;> rfl

set_option maxRecDepth 8192 in
/-- `wArg` leaves `main_v77` alone. -/
theorem wArg_keep_v77 (V : Valuation τ sig (Elt F)) :
    after wArg V (Proc.devRef .tc main_v77) = V (Proc.devRef .tc main_v77) := by
  simp only [wArg, TRef.quaternary, TRef.binary, TRef.nullary, TRef.unary, TRef.toBuf, TRef.ofBuf, cast_eq]; after_results_simp <;> rfl

set_option maxRecDepth 8192 in
/-- `wOut` leaves `main_arg0` alone. -/
theorem wOut_keep_arg0 (V : Valuation τ sig (Elt F)) :
    after wOut V (Proc.devRef .tc main_arg0) = V (Proc.devRef .tc main_arg0) := by
  simp only [wOut, TRef.quaternary, TRef.binary, TRef.nullary, TRef.unary, TRef.toBuf, TRef.ofBuf, cast_eq]; after_results_simp <;> rfl

set_option maxRecDepth 8192 in
/-- `wOut` leaves `main_arg1` alone. -/
theorem wOut_keep_arg1 (V : Valuation τ sig (Elt F)) :
    after wOut V (Proc.devRef .tc main_arg1) = V (Proc.devRef .tc main_arg1) := by
  simp only [wOut, TRef.quaternary, TRef.binary, TRef.nullary, TRef.unary, TRef.toBuf, TRef.ofBuf, cast_eq]; after_results_simp <;> rfl

set_option maxRecDepth 8192 in
/-- `wOut` leaves `main_arg2` alone. -/
theorem wOut_keep_arg2 (V : Valuation τ sig (Elt F)) :
    after wOut V (Proc.devRef .tc main_arg2) = V (Proc.devRef .tc main_arg2) := by
  simp only [wOut, TRef.quaternary, TRef.binary, TRef.nullary, TRef.unary, TRef.toBuf, TRef.ofBuf, cast_eq]; after_results_simp <;> rfl

set_option maxRecDepth 8192 in
/-- `wOut` leaves `main_arg3` alone. -/
theorem wOut_keep_arg3 (V : Valuation τ sig (Elt F)) :
    after wOut V (Proc.devRef .tc main_arg3) = V (Proc.devRef .tc main_arg3) := by
  simp only [wOut, TRef.quaternary, TRef.binary, TRef.nullary, TRef.unary, TRef.toBuf, TRef.ofBuf, cast_eq]; after_results_simp <;> rfl

set_option maxRecDepth 8192 in
/-- `wOut` leaves `main_arg4` alone. -/
theorem wOut_keep_arg4 (V : Valuation τ sig (Elt F)) :
    after wOut V (Proc.devRef .tc main_arg4) = V (Proc.devRef .tc main_arg4) := by
  simp only [wOut, TRef.quaternary, TRef.binary, TRef.nullary, TRef.unary, TRef.toBuf, TRef.ofBuf, cast_eq]; after_results_simp <;> rfl

set_option maxRecDepth 8192 in
/-- `wOut` leaves `main_arg5` alone. -/
theorem wOut_keep_arg5 (V : Valuation τ sig (Elt F)) :
    after wOut V (Proc.devRef .tc main_arg5) = V (Proc.devRef .tc main_arg5) := by
  simp only [wOut, TRef.quaternary, TRef.binary, TRef.nullary, TRef.unary, TRef.toBuf, TRef.ofBuf, cast_eq]; after_results_simp <;> rfl

set_option maxRecDepth 8192 in
/-- `wOut` leaves `main_arg6` alone. -/
theorem wOut_keep_arg6 (V : Valuation τ sig (Elt F)) :
    after wOut V (Proc.devRef .tc main_arg6) = V (Proc.devRef .tc main_arg6) := by
  simp only [wOut, TRef.quaternary, TRef.binary, TRef.nullary, TRef.unary, TRef.toBuf, TRef.ofBuf, cast_eq]; after_results_simp <;> rfl

set_option maxRecDepth 8192 in
/-- `wOut` leaves `main_arg7` alone. -/
theorem wOut_keep_arg7 (V : Valuation τ sig (Elt F)) :
    after wOut V (Proc.devRef .tc main_arg7) = V (Proc.devRef .tc main_arg7) := by
  simp only [wOut, TRef.quaternary, TRef.binary, TRef.nullary, TRef.unary, TRef.toBuf, TRef.ofBuf, cast_eq]; after_results_simp <;> rfl

set_option maxRecDepth 8192 in
/-- `wOut` leaves `main_arg8` alone. -/
theorem wOut_keep_arg8 (V : Valuation τ sig (Elt F)) :
    after wOut V (Proc.devRef .tc main_arg8) = V (Proc.devRef .tc main_arg8) := by
  simp only [wOut, TRef.quaternary, TRef.binary, TRef.nullary, TRef.unary, TRef.toBuf, TRef.ofBuf, cast_eq]; after_results_simp <;> rfl

set_option maxRecDepth 8192 in
/-- `wOut` leaves `main_arg9` alone. -/
theorem wOut_keep_arg9 (V : Valuation τ sig (Elt F)) :
    after wOut V (Proc.devRef .tc main_arg9) = V (Proc.devRef .tc main_arg9) := by
  simp only [wOut, TRef.quaternary, TRef.binary, TRef.nullary, TRef.unary, TRef.toBuf, TRef.ofBuf, cast_eq]; after_results_simp <;> rfl

set_option maxRecDepth 8192 in
/-- `wOut` leaves `main_arg10` alone. -/
theorem wOut_keep_arg10 (V : Valuation τ sig (Elt F)) :
    after wOut V (Proc.devRef .tc main_arg10) = V (Proc.devRef .tc main_arg10) := by
  simp only [wOut, TRef.quaternary, TRef.binary, TRef.nullary, TRef.unary, TRef.toBuf, TRef.ofBuf, cast_eq]; after_results_simp <;> rfl

/-- The run of two lines of operations is the second's after the first's. -/
theorem after_app (l₁ l₂ : List (HloOp τ sig (Elt F))) (V : Valuation τ sig (Elt F)) : after (l₁ ++ l₂) V = after l₂ (after l₁ V) := by
  induction l₁ generalizing V with
  | nil => rfl
  | cons op l ih => exact ih (op.result V)

/-- `main_v0` at the end of the run, of the launch memory. -/
def r_v0 (m : (ℓ : Loc nD τ sig) → Buf (Elt F) ℓ) (c : Dev nD) : (⟨S16x576x768, .f32⟩ : BufTy).Contents (Elt F) :=
  f_v0 (m ((c.tc : Thread nD τ).loc main_arg0))

/-- `main_v5` at the end of the run, of the launch memory. -/
def r_v5 (m : (ℓ : Loc nD τ sig) → Buf (Elt F) ℓ) (c : Dev nD) : (⟨S16x576x64, .f32⟩ : BufTy).Contents (Elt F) :=
  f_v5 (m ((c.tc : Thread nD τ).loc main_arg0)) (m ((c.tc : Thread nD τ).loc main_arg7)) (m ((c.tc : Thread nD τ).loc main_arg8))

/-- `main_v21` at the end of the run, of the launch memory. -/
def r_v21 (m : (ℓ : Loc nD τ sig) → Buf (Elt F) ℓ) (c : Dev nD) : (⟨S8192x13, .f32⟩ : BufTy).Contents (Elt F) :=
  f_v21

/-- `main_v38` at the end of the run, of the launch memory. -/
def r_v38 (m : (ℓ : Loc nD τ sig) → Buf (Elt F) ℓ) (c : Dev nD) : (⟨S8192x64, .f32⟩ : BufTy).Contents (Elt F) :=
  f_v38 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (r_v21 m c)

/-- `main_v43` at the end of the run, of the launch memory. -/
def r_v43 (m : (ℓ : Loc nD τ sig) → Buf (Elt F) ℓ) (c : Dev nD) : (⟨S16x576x64, .f32⟩ : BufTy).Contents (Elt F) :=
  f_v43 (r_v5 m c)

/-- `main_v48` at the end of the run, of the launch memory. -/
def r_v48 (m : (ℓ : Loc nD τ sig) → Buf (Elt F) ℓ) (c : Dev nD) : (⟨S8192x64, .f32⟩ : BufTy).Contents (Elt F) :=
  f_v48 (r_v38 m c)

/-- `main_v63` at the end of the run, of the launch memory. -/
def r_v63 (m : (ℓ : Loc nD τ sig) → Buf (Elt F) ℓ) (c : Dev nD) : (⟨S9216x8192, .f32⟩ : BufTy).Contents (Elt F) :=
  f_v63 (r_v43 m c) (r_v48 m c)

/-- `main_v77` at the end of the run, of the launch memory. -/
def r_v77 (m : (ℓ : Loc nD τ sig) → Buf (Elt F) ℓ) (c : Dev nD) : (⟨S9216x8192, .f32⟩ : BufTy).Contents (Elt F) :=
  f_v77 (r_v63 m c)

/-- `main_v78` at the end of the run, of the launch memory. -/
def r_v78 (m : (ℓ : Loc nD τ sig) → Buf (Elt F) ℓ) (c : Dev nD) : (⟨S9216, .i32⟩ : BufTy).Contents (Elt F) :=
  f_v78 (r_v77 m c)

/-- `main_v86` at the end of the run, of the launch memory. -/
def r_v86 (m : (ℓ : Loc nD τ sig) → Buf (Elt F) ℓ) (c : Dev nD) : (⟨S16x576, .i32⟩ : BufTy).Contents (Elt F) :=
  f_v86 (r_v78 m c)

/-- `main_v94` at the end of the run, of the launch memory. -/
def r_v94 (m : (ℓ : Loc nD τ sig) → Buf (Elt F) ℓ) (c : Dev nD) : (⟨S16x576x768, .f32⟩ : BufTy).Contents (Elt F) :=
  f_v94 (m ((c.tc : Thread nD τ).loc main_arg9)) (m ((c.tc : Thread nD τ).loc main_arg10)) (r_v0 m c) (r_v48 m c) (r_v77 m c)

/-- `main_cst_13` at the end of the run, of the launch memory. -/
def r_cst_13 (m : (ℓ : Loc nD τ sig) → Buf (Elt F) ℓ) (c : Dev nD) : (⟨S_, .f32⟩ : BufTy).Contents (Elt F) :=
  f_cst_13

set_option maxRecDepth 16384 in
set_option maxHeartbeats 2000000 in
/-- The whole run's effect on `main_v94`. -/
theorem ops_v94 (m : (ℓ : Loc nD τ sig) → Buf (Elt F) ℓ) (c : Dev nD) :
    after ops (launchContents m c) (Proc.devRef .tc main_v94) = (r_v94 m c) := by
  simp only [ops, after_app]
  rw [wOut_v94, wArg_keep_arg9, wArg_keep_arg10, wArg_keep_v0, wArg_keep_v48, wArg_keep_v77, wSoft_keep_arg9, wSoft_keep_arg10, wSoft_keep_v0, wSoft_keep_v48, wSoft_v77, wDist_keep_arg9, wDist_keep_arg10, wDist_keep_v0, wDist_keep_v48, wDist_v63, wNrmE_keep_arg9, wNrmE_keep_arg10, wNrmE_keep_v0, wNrmE_v48, wNrmE_keep_v43, wNrmH_keep_arg9, wNrmH_keep_arg10, wNrmH_keep_v0, wNrmH_keep_v38, wNrmH_v43, wEmb_keep_arg9, wEmb_keep_arg10, wEmb_keep_v0, wEmb_v38, wEmb_keep_v5, wBit_keep_arg9, wBit_keep_arg10, wBit_keep_v0, wBit_keep_arg1, wBit_keep_arg2, wBit_keep_arg3, wBit_keep_arg4, wBit_keep_arg5, wBit_keep_arg6, wBit_v21, wBit_keep_v5, wTok_keep_arg9, wTok_keep_arg10, wTok_v0, wTok_keep_arg1, wTok_keep_arg2, wTok_keep_arg3, wTok_keep_arg4, wTok_keep_arg5, wTok_keep_arg6, wTok_v5]
  rfl

set_option maxRecDepth 16384 in
set_option maxHeartbeats 2000000 in
/-- The whole run's effect on `main_v86`. -/
theorem ops_v86 (m : (ℓ : Loc nD τ sig) → Buf (Elt F) ℓ) (c : Dev nD) :
    after ops (launchContents m c) (Proc.devRef .tc main_v86) = (r_v86 m c) := by
  simp only [ops, after_app]
  rw [wOut_v86, wArg_v78, wSoft_v77, wDist_v63, wNrmE_keep_v43, wNrmE_v48, wNrmH_v43, wNrmH_keep_v38, wEmb_keep_v5, wEmb_v38, wBit_keep_v5, wBit_keep_arg1, wBit_keep_arg2, wBit_keep_arg3, wBit_keep_arg4, wBit_keep_arg5, wBit_keep_arg6, wBit_v21, wTok_v5, wTok_keep_arg1, wTok_keep_arg2, wTok_keep_arg3, wTok_keep_arg4, wTok_keep_arg5, wTok_keep_arg6]
  rfl

set_option maxRecDepth 16384 in
set_option maxHeartbeats 2000000 in
/-- The whole run's effect on `main_cst_13`. -/
theorem ops_cst_13 (m : (ℓ : Loc nD τ sig) → Buf (Elt F) ℓ) (c : Dev nD) :
    after ops (launchContents m c) (Proc.devRef .tc main_cst_13) = (r_cst_13 m c) := by
  simp only [ops, after_app]
  rw [wOut_cst_13]
  rfl

set_option maxRecDepth 16384 in
set_option maxHeartbeats 2000000 in
/-- The whole run's effect on `main_arg0`. -/
theorem ops_arg0 (m : (ℓ : Loc nD τ sig) → Buf (Elt F) ℓ) (c : Dev nD) :
    after ops (launchContents m c) (Proc.devRef .tc main_arg0) = m ((c.tc : Thread nD τ).loc main_arg0) := by
  simp only [ops, after_app]
  rw [wOut_keep_arg0, wArg_keep_arg0, wSoft_keep_arg0, wDist_keep_arg0, wNrmE_keep_arg0, wNrmH_keep_arg0, wEmb_keep_arg0, wBit_keep_arg0, wTok_keep_arg0]

set_option maxRecDepth 16384 in
set_option maxHeartbeats 2000000 in
/-- The whole run's effect on `main_arg1`. -/
theorem ops_arg1 (m : (ℓ : Loc nD τ sig) → Buf (Elt F) ℓ) (c : Dev nD) :
    after ops (launchContents m c) (Proc.devRef .tc main_arg1) = m ((c.tc : Thread nD τ).loc main_arg1) := by
  simp only [ops, after_app]
  rw [wOut_keep_arg1, wArg_keep_arg1, wSoft_keep_arg1, wDist_keep_arg1, wNrmE_keep_arg1, wNrmH_keep_arg1, wEmb_keep_arg1, wBit_keep_arg1, wTok_keep_arg1]

set_option maxRecDepth 16384 in
set_option maxHeartbeats 2000000 in
/-- The whole run's effect on `main_arg2`. -/
theorem ops_arg2 (m : (ℓ : Loc nD τ sig) → Buf (Elt F) ℓ) (c : Dev nD) :
    after ops (launchContents m c) (Proc.devRef .tc main_arg2) = m ((c.tc : Thread nD τ).loc main_arg2) := by
  simp only [ops, after_app]
  rw [wOut_keep_arg2, wArg_keep_arg2, wSoft_keep_arg2, wDist_keep_arg2, wNrmE_keep_arg2, wNrmH_keep_arg2, wEmb_keep_arg2, wBit_keep_arg2, wTok_keep_arg2]

set_option maxRecDepth 16384 in
set_option maxHeartbeats 2000000 in
/-- The whole run's effect on `main_arg3`. -/
theorem ops_arg3 (m : (ℓ : Loc nD τ sig) → Buf (Elt F) ℓ) (c : Dev nD) :
    after ops (launchContents m c) (Proc.devRef .tc main_arg3) = m ((c.tc : Thread nD τ).loc main_arg3) := by
  simp only [ops, after_app]
  rw [wOut_keep_arg3, wArg_keep_arg3, wSoft_keep_arg3, wDist_keep_arg3, wNrmE_keep_arg3, wNrmH_keep_arg3, wEmb_keep_arg3, wBit_keep_arg3, wTok_keep_arg3]

set_option maxRecDepth 16384 in
set_option maxHeartbeats 2000000 in
/-- The whole run's effect on `main_arg4`. -/
theorem ops_arg4 (m : (ℓ : Loc nD τ sig) → Buf (Elt F) ℓ) (c : Dev nD) :
    after ops (launchContents m c) (Proc.devRef .tc main_arg4) = m ((c.tc : Thread nD τ).loc main_arg4) := by
  simp only [ops, after_app]
  rw [wOut_keep_arg4, wArg_keep_arg4, wSoft_keep_arg4, wDist_keep_arg4, wNrmE_keep_arg4, wNrmH_keep_arg4, wEmb_keep_arg4, wBit_keep_arg4, wTok_keep_arg4]

set_option maxRecDepth 16384 in
set_option maxHeartbeats 2000000 in
/-- The whole run's effect on `main_arg5`. -/
theorem ops_arg5 (m : (ℓ : Loc nD τ sig) → Buf (Elt F) ℓ) (c : Dev nD) :
    after ops (launchContents m c) (Proc.devRef .tc main_arg5) = m ((c.tc : Thread nD τ).loc main_arg5) := by
  simp only [ops, after_app]
  rw [wOut_keep_arg5, wArg_keep_arg5, wSoft_keep_arg5, wDist_keep_arg5, wNrmE_keep_arg5, wNrmH_keep_arg5, wEmb_keep_arg5, wBit_keep_arg5, wTok_keep_arg5]

set_option maxRecDepth 16384 in
set_option maxHeartbeats 2000000 in
/-- The whole run's effect on `main_arg6`. -/
theorem ops_arg6 (m : (ℓ : Loc nD τ sig) → Buf (Elt F) ℓ) (c : Dev nD) :
    after ops (launchContents m c) (Proc.devRef .tc main_arg6) = m ((c.tc : Thread nD τ).loc main_arg6) := by
  simp only [ops, after_app]
  rw [wOut_keep_arg6, wArg_keep_arg6, wSoft_keep_arg6, wDist_keep_arg6, wNrmE_keep_arg6, wNrmH_keep_arg6, wEmb_keep_arg6, wBit_keep_arg6, wTok_keep_arg6]

set_option maxRecDepth 16384 in
set_option maxHeartbeats 2000000 in
/-- The whole run's effect on `main_arg7`. -/
theorem ops_arg7 (m : (ℓ : Loc nD τ sig) → Buf (Elt F) ℓ) (c : Dev nD) :
    after ops (launchContents m c) (Proc.devRef .tc main_arg7) = m ((c.tc : Thread nD τ).loc main_arg7) := by
  simp only [ops, after_app]
  rw [wOut_keep_arg7, wArg_keep_arg7, wSoft_keep_arg7, wDist_keep_arg7, wNrmE_keep_arg7, wNrmH_keep_arg7, wEmb_keep_arg7, wBit_keep_arg7, wTok_keep_arg7]

set_option maxRecDepth 16384 in
set_option maxHeartbeats 2000000 in
/-- The whole run's effect on `main_arg8`. -/
theorem ops_arg8 (m : (ℓ : Loc nD τ sig) → Buf (Elt F) ℓ) (c : Dev nD) :
    after ops (launchContents m c) (Proc.devRef .tc main_arg8) = m ((c.tc : Thread nD τ).loc main_arg8) := by
  simp only [ops, after_app]
  rw [wOut_keep_arg8, wArg_keep_arg8, wSoft_keep_arg8, wDist_keep_arg8, wNrmE_keep_arg8, wNrmH_keep_arg8, wEmb_keep_arg8, wBit_keep_arg8, wTok_keep_arg8]

set_option maxRecDepth 16384 in
set_option maxHeartbeats 2000000 in
/-- The whole run's effect on `main_arg9`. -/
theorem ops_arg9 (m : (ℓ : Loc nD τ sig) → Buf (Elt F) ℓ) (c : Dev nD) :
    after ops (launchContents m c) (Proc.devRef .tc main_arg9) = m ((c.tc : Thread nD τ).loc main_arg9) := by
  simp only [ops, after_app]
  rw [wOut_keep_arg9, wArg_keep_arg9, wSoft_keep_arg9, wDist_keep_arg9, wNrmE_keep_arg9, wNrmH_keep_arg9, wEmb_keep_arg9, wBit_keep_arg9, wTok_keep_arg9]

set_option maxRecDepth 16384 in
set_option maxHeartbeats 2000000 in
/-- The whole run's effect on `main_arg10`. -/
theorem ops_arg10 (m : (ℓ : Loc nD τ sig) → Buf (Elt F) ℓ) (c : Dev nD) :
    after ops (launchContents m c) (Proc.devRef .tc main_arg10) = m ((c.tc : Thread nD τ).loc main_arg10) := by
  simp only [ops, after_app]
  rw [wOut_keep_arg10, wArg_keep_arg10, wSoft_keep_arg10, wDist_keep_arg10, wNrmE_keep_arg10, wNrmH_keep_arg10, wEmb_keep_arg10, wBit_keep_arg10, wTok_keep_arg10]

set_option maxRecDepth 16384 in
set_option maxHeartbeats 2000000 in
/-- Every run of the reference ends with its results at the composed stretches and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = (r_v94 m c)
      ∧ r.2.mem ((c.tc : Thread nD τ).loc main_v86) = (r_v86 m c)
      ∧ r.2.mem ((c.tc : Thread nD τ).loc main_cst_13) = (r_cst_13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=

  (θ_run defs _ _).mono (fun _ h c => ⟨(h c main_v94).trans (ops_v94 m c), (h c main_v86).trans (ops_v86 m c), (h c main_cst_13).trans (ops_cst_13 m c), (h c main_arg0).trans (ops_arg0 m c), (h c main_arg1).trans (ops_arg1 m c), (h c main_arg2).trans (ops_arg2 m c), (h c main_arg3).trans (ops_arg3 m c), (h c main_arg4).trans (ops_arg4 m c), (h c main_arg5).trans (ops_arg5 m c), (h c main_arg6).trans (ops_arg6 m c), (h c main_arg7).trans (ops_arg7 m c), (h c main_arg8).trans (ops_arg8 m c), (h c main_arg9).trans (ops_arg9 m c), (h c main_arg10).trans (ops_arg10 m c)⟩)
    (run_seq scopedRefs_eq scopedSems_eq defs main (fun _ => ops) main_eq (fun _ => ops_sub) m ρ)

end Cert.Vq.Ref
-- ==== Proof.Vq.RefVal.lean ====
/- The reference's stretches read at an index. -/
module

public import proofs.«01_k».proof.Proof.Vq.Spec
public import proofs.«01_k».proof.Proof.Vq.RefRun
public import Idealize.ShloMosaic.Lib.Pointwise

@[expose] public section

set_option maxRecDepth 16384

noncomputable section

namespace Cert.Vq.Ref

open Cert.ReferenceIdeal Cert.ReferenceIdeal.Gen Idealize.ShloMosaic Idealize.ShloMosaic.TcCoe Idealize.SL.Sem

/-- The projected token. -/
theorem v5_at (X : FVec Ideal S16x768x576 .f32) (W : FVec Ideal S64x768 .f32) (b : FVec Ideal S64 .f32) (i : Fin 16) (t : Fin 576) (d : Fin 64) :
    f_v5 (F := Ideal) X W b (ix3 i t d) = (∑ k : Fin 768, X (ix3 i k t) * W (ix2 d k)) + b (ix1 d) := by
  pointwise! [f_v5]

/-- The embedding before its normalisation. -/
theorem v38_at (W1 : FVec Ideal S1024x13 .f32) (b1 : FVec Ideal S1024 .f32) (W2 : FVec Ideal S1024x1024 .f32) (b2 : FVec Ideal S1024 .f32)
    (W3 : FVec Ideal S64x1024 .f32) (b3 : FVec Ideal S64 .f32) (B : FVec Ideal S8192x13 .f32) (r : Fin 8192) (d : Fin 64) :
    f_v38 (F := Ideal) W1 b1 W2 b2 W3 b3 B (ix2 r d)
      = (∑ l : Fin 1024, max ((∑ j : Fin 1024, max ((∑ k : Fin 13, B (ix2 r k) * W1 (ix2 j k)) + b1 (ix1 j)) 0 * W2 (ix2 l j)) + b2 (ix1 l)) 0
          * W3 (ix2 d l)) + b3 (ix1 d) := by
  pointwise! [f_v38]

/-- The normalised token. -/
theorem v43_at (v : FVec Ideal S16x576x64 .f32) (i : Fin 16) (t : Fin 576) (d : Fin 64) :
    f_v43 (F := Ideal) v (ix3 i t d) = nrm (fun e => v (ix3 i t e)) d := by
  pointwise! [f_v43, nrm, eps]

/-- The normalised embedding. -/
theorem v48_at (v : FVec Ideal S8192x64 .f32) (r : Fin 8192) (d : Fin 64) :
    f_v48 (F := Ideal) v (ix2 r d) = nrm (fun e => v (ix2 r e)) d := by
  pointwise! [f_v48, nrm, eps]

/-- The distance of token `n`, batch and position split, to code `r`. -/
theorem v63_at (h : FVec Ideal S16x576x64 .f32) (e : FVec Ideal S8192x64 .f32) (n : Fin 9216) (r : Fin 8192) :
    f_v63 (F := Ideal) h e (ix2 n r) = dist (fun d => h (ix3 ⟨n / 576, by omega⟩ ⟨n % 576, by omega⟩ d)) (fun d => e (ix2 r d)) := by
  pointwise [f_v63, dist]
  rw [ofBits_two]
  rfl

/-- The scores of a row: the negated distances over the temperature one. -/
def scores (s : FVec Ideal S9216x8192 .f32) : FVec Ideal S9216x8192 .f32 :=
  Host.divf (Host.negf s) (broadcastInDim S9216x8192 ![] bcast_S_S9216x8192 (constant S_ .f32 0x3F800000#32))

/-- The largest score of each row. -/
def top (a : FVec Ideal S9216x8192 .f32) : FVec Ideal S9216 .f32 :=
  Host.reduce FloatOps.maximumf a (constant S_ .f32 0xFF800000#32) reducesTo_S9216x8192_S9216_d1 h_S_

/-- The exponentials of the scores less their row shift. -/
def exps (a : FVec Ideal S9216x8192 .f32) (M : FVec Ideal S9216 .f32) : FVec Ideal S9216x8192 .f32 :=
  Host.exp (subf a (broadcastInDim S9216x8192 ![0, 1] bcast_S9216x1_S9216x8192_0_1 (broadcastInDim S9216x1 ![0] bcast_S9216_S9216x1_0
    (maximumf (broadcastInDim S9216 ![] bcast_S_S9216 (constant S_ .f32 0xFF800000#32)) M))))

/-- The exponentials over their row sums. -/
def weights (e : FVec Ideal S9216x8192 .f32) : FVec Ideal S9216x8192 .f32 :=
  Host.divf e (broadcastInDim S9216x8192 ![0, 1] bcast_S9216x1_S9216x8192_0_1 (broadcastInDim S9216x1 ![0] bcast_S9216_S9216x1_0
    (Host.reduceAdd e (constant S_ .f32 0x00000000#32) reducesTo_S9216x8192_S9216_d1 h_S_)))

/-- The softmax by its four steps. -/
theorem v77_eq (s : FVec Ideal S9216x8192 .f32) : f_v77 (F := Ideal) s = weights (exps (scores s) (top (scores s))) := rfl

/-- A score. -/
theorem scores_at (s : FVec Ideal S9216x8192 .f32) (n : Fin 9216) (r : Fin 8192) : scores s (ix2 n r) = Ideal.div (-s (ix2 n r)) 1 := by
  pointwise [scores]

/-- A row's largest score. -/
theorem top_at (a : FVec Ideal S9216x8192 .f32) (n : Fin 9216) : top a (ix1 n) = Finset.fold max ⊥ (fun q => a (ix2 n q)) Finset.univ := by
  pointwise [top]
  rw [ofBits_neg_inf]

/-- A shifted exponential. -/
theorem exps_at (a : FVec Ideal S9216x8192 .f32) (M : FVec Ideal S9216 .f32) (n : Fin 9216) (r : Fin 8192) :
    exps a M (ix2 n r) = Ideal.exp (a (ix2 n r) - max ⊥ (M (ix1 n))) := by
  pointwise [exps]
  rw [ofBits_neg_inf]

/-- A weight. -/
theorem weights_at (e : FVec Ideal S9216x8192 .f32) (n : Fin 9216) (r : Fin 8192) :
    weights e (ix2 n r) = Ideal.div (e (ix2 n r)) (∑ p, e (ix2 n p)) := by
  pointwise [weights]

/-- The softmax weights of a row, before anything is known of the row. -/
theorem v77_at (s : FVec Ideal S9216x8192 .f32) (n : Fin 9216) (r : Fin 8192) :
    f_v77 (F := Ideal) s (ix2 n r)
      = Ideal.div
          (Ideal.exp (scores s (ix2 n r) - max ⊥ (top (scores s) (ix1 n))))
          (∑ p, Ideal.exp (scores s (ix2 n p) - max ⊥ (top (scores s) (ix1 n)))) := by
  refine (congrFun (v77_eq s) _).trans ((weights_at _ n r).trans ?_)
  simp only [exps_at]

/-- On a row of finite distances the softmax weights are positive and fall as the distances rise. -/
theorem v77_order (s : FVec Ideal S9216x8192 .f32) (n : Fin 9216) (σ : Fin 8192 → ℝ) (hs : ∀ q, s (ix2 n q) = (σ q : EReal)) :
    (∀ r, (⊥ : EReal) < f_v77 (F := Ideal) s (ix2 n r))
    ∧ ∀ r r', f_v77 (F := Ideal) s (ix2 n r) < f_v77 (F := Ideal) s (ix2 n r') ↔ s (ix2 n r') < s (ix2 n r) := by
  have hq : ∀ q, scores s (ix2 n q) = ((-σ q : ℝ) : EReal) := fun q => by
    rw [scores_at, hs q, Ideal.div, if_neg one_ne_zero]
    simp
  have hM : ∃ M : ℝ, max ⊥ (top (scores s) (ix1 n)) = (M : EReal) := by
    rw [top_at]
    simp only [hq, bot_le, sup_of_le_right]
    exact fold_max_real (n := 8191) fun q => -σ q
  obtain ⟨M, hM⟩ := hM
  have h := softmax_order (n := 8191) (fun q => -σ q) M
  have hA : ∀ r, f_v77 (F := Ideal) s (ix2 n r)
      = Ideal.div (Ideal.exp (((-σ r : ℝ) : EReal) - M)) (∑ q, Ideal.exp (((-σ q : ℝ) : EReal) - M)) := fun r => by
    rw [v77_at, hM]; simp only [hq]
  refine ⟨fun r => by rw [hA]; exact h.1 r, fun r r' => ?_⟩
  rw [hA, hA, hs, hs, EReal.coe_lt_coe_iff]
  exact (h.2 r r').trans neg_lt_neg_iff

/-- The first result is the transposed input. -/
theorem v94_at (a9 : FVec Ideal S768x64 .f32) (a10 : FVec Ideal S768 .f32) (x : FVec Ideal S16x576x768 .f32) (y : FVec Ideal S8192x64 .f32)
    (z : FVec Ideal S9216x8192 .f32) (i : Fin 16) (t : Fin 576) (k : Fin 768) :
    f_v94 (F := Ideal) a9 a10 x y z (ix3 i t k) = x (ix3 i t k) := by
  have h0 : (1 : EReal) - 1 = 0 := by
    rw [← EReal.coe_one, ← EReal.coe_sub, sub_self, EReal.coe_zero]
  pointwise [f_v94]
  rw [h0, mul_zero, zero_add]

/-- The bit table. -/
theorem v21_at (r : Fin 8192) (k : Fin 13) :
    f_v21 (F := Ideal) (ix2 r k) = bit r k := by
  pointwise [f_v21]
  exact bit_masked r k

/-- The code of token `n`. -/
theorem v86_at (v : IVec S9216 32) (i : Fin 16) (t : Fin 576) :
    f_v86 (F := Ideal) v (ix2 i t) = v (ix1 ⟨i * 576 + t, by omega⟩) := by
  pointwise! [f_v86]

/-- The transposed input. -/
theorem v0_at (X : FVec Ideal S16x768x576 .f32) (i : Fin 16) (t : Fin 576) (k : Fin 768) :
    f_v0 (F := Ideal) X (ix3 i t k) = X (ix3 i k t) := by
  pointwise! [f_v0]

/-- A pair (weight, position) that the pair `p` beats or equals. -/
def Below (p q : EReal × BitVec 32) : Prop := q.1 < p.1 ∨ (q.1 = p.1 ∧ p.2.toInt ≤ q.2.toInt)

/-- The reducer as a choice by the order. -/
theorem red_eq (a b : EReal × BitVec 32) :
    reducer_argmax_f32_i32 (F := Ideal) a b
      = (if b.1 < a.1 then a.1 else b.1, if b.1 < a.1 ∨ (a.1 = b.1 ∧ a.2.toInt < b.2.toInt) then a.2 else b.2) := by
  obtain ⟨a1, a2⟩ := a
  obtain ⟨b1, b2⟩ := b
  have hs : ∀ {p : Prop} [Decidable p], (BitVec.ofBool (decide p) = 1#1) = p := fun {p} _ => by
    by_cases h : p <;> simp [h]
  show (Scalar.select (IntOp.ori (Ideal.cmp .ogt a1 b1) (Ideal.cmp .une a1 a1)) a1 b1,
      Scalar.select (IntOp.ori (IntOp.ori (Ideal.cmp .ogt a1 b1) (Ideal.cmp .une a1 a1))
        (IntOp.andi (Ideal.cmp .oeq a1 b1) (IntOp.cmpi .slt a2 b2))) a2 b2) = _
  have h1 : Ideal.cmp .une a1 a1 = 0#1 := by simp [Ideal.cmp]
  have h2 : Ideal.cmp .ogt a1 b1 = BitVec.ofBool (decide (b1 < a1)) := rfl
  have h3 : Ideal.cmp .oeq a1 b1 = BitVec.ofBool (decide (a1 = b1)) := rfl
  have h4 : IntOp.cmpi .slt a2 b2 = BitVec.ofBool (decide (a2.toInt < b2.toInt)) := rfl
  rw [h1, h2, h3, h4]
  by_cases c1 : b1 < a1 <;> by_cases c2 : a1 = b1 <;> by_cases c3 : a2.toInt < b2.toInt <;>
    simp [c1, c2, c3, IntOp.ori, IntOp.andi, Scalar.select]

/-- The reducer keeps one of its two pairs. -/
theorem red_or (a b : EReal × BitVec 32) :
    reducer_argmax_f32_i32 (F := Ideal) a b = a ∨ reducer_argmax_f32_i32 (F := Ideal) a b = b := by
  rw [red_eq]
  by_cases c1 : b.1 < a.1
  · left; simp [c1]
  · by_cases c2 : a.1 = b.1 ∧ a.2.toInt < b.2.toInt
    · left; rw [if_neg c1, if_pos (Or.inr c2), ← c2.1]
    · right; rw [if_neg c1, if_neg (not_or.2 ⟨c1, c2⟩)]

/-- The reducer keeps its left pair when that beats or equals the right one. -/
theorem red_left (p q : EReal × BitVec 32) (h : Below p q) : reducer_argmax_f32_i32 (F := Ideal) p q = p := by
  rw [red_eq]
  rcases h with h | ⟨h, h'⟩
  · simp [h]
  · rw [if_neg (by rw [h]; exact lt_irrefl _)]
    rcases h'.lt_or_eq with h2 | h2
    · rw [if_pos (Or.inr ⟨h.symm, h2⟩), h]
    · have : p.2 = q.2 := BitVec.eq_of_toInt_eq h2
      rw [h, this, ite_self, ← this]

/-- The reducer takes its right pair when that beats or equals the left one. -/
theorem red_right (p q : EReal × BitVec 32) (h : Below p q) : reducer_argmax_f32_i32 (F := Ideal) q p = p := by
  rw [red_eq]
  rcases h with h | ⟨h, h'⟩
  · rw [if_neg (not_lt.2 h.le), if_neg (not_or.2 ⟨not_lt.2 h.le, fun hc => h.ne hc.1⟩)]
  · rw [if_neg (by rw [h]; exact lt_irrefl _), if_neg (not_or.2 ⟨by rw [h]; exact lt_irrefl _, fun hc => not_lt.2 h' hc.2⟩)]

/-- Folding the reducer over a list holding a pair that beats or equals all others yields that pair. -/
theorem fold_red (p : EReal × BitVec 32) (l : List (EReal × BitVec 32)) (a : EReal × BitVec 32)
    (ha : Below p a) (hl : ∀ q ∈ l, Below p q) (hp : a = p ∨ p ∈ l) : l.foldl (reducer_argmax_f32_i32 (F := Ideal)) a = p := by
  induction l generalizing a with
  | nil => rcases hp with h | h; exacts [h, absurd h List.not_mem_nil]
  | cons q l ih =>
    have hq := hl q List.mem_cons_self
    have hl' : ∀ q ∈ l, Below p q := fun x hx => hl x (List.mem_cons_of_mem _ hx)
    rw [List.foldl_cons]
    by_cases hpa : a = p
    · subst hpa; rw [red_left _ _ hq]; exact ih _ ha hl' (Or.inl rfl)
    · rcases hp with h | h
      · exact absurd h hpa
      · rcases List.mem_cons.1 h with h | h
        · subst h; rw [red_right _ _ ha]; exact ih _ hq hl' (Or.inl rfl)
        · refine ih _ ?_ hl' (Or.inr h)
          rcases red_or a q with e | e <;> rw [e]
          exacts [ha, hq]

/-- The code of a token as the fold of the reducer over its row. -/
theorem v78_fold (A : FVec Ideal S9216x8192 .f32) (j : S9216.Idx) :
    f_v78 (F := Ideal) A j
      = ((Host.argReduceFiber A (iotaInDim S9216x8192 32 1) reducesTo_S9216x8192_S9216_d1 j).foldl reducer_argmax_f32_i32
          ((constant (F := Ideal) S_ .f32 0xFF800000#32) (Shape.Idx.first h_S_), (constantI S_ 32 0#32) (Shape.Idx.first h_S_))).2 := by
  have h : f_v78 (F := Ideal) A = fun j => (Host.argReduce reducer_argmax_f32_i32 A (iotaInDim S9216x8192 32 1)
    (constant S_ .f32 0xFF800000#32) (constantI S_ 32 0#32) reducesTo_S9216x8192_S9216_d1 h_S_ j).2 := rfl
  refine (congrFun h j).trans ?_
  rw [Ideal.argReduce_eq_reduce2, Host.reduce2_eq_foldl_fiber]

/-- The pairs of a row are its weights with their positions. -/
theorem mem_row (A : FVec Ideal S9216x8192 .f32) (n : Fin 9216) (q : EReal × BitVec 32) :
    q ∈ Host.argReduceFiber A (iotaInDim S9216x8192 32 1) reducesTo_S9216x8192_S9216_d1 (ix1 n)
      ↔ ∃ r : Fin 8192, q = (A (ix2 n r), BitVec.ofNat 32 r.val) := by
  have hd : ∀ i : S9216x8192.Idx, reducesTo_S9216x8192_S9216_d1.drop i = ix1 n ↔ i 0 = n := fun i => by
    have h0 := reducesTo_S9216x8192_S9216_d1.drop_apply_val_of_eq i 0 0
    constructor
    · intro h; rw [h] at h0; exact Fin.ext h0.symm
    · intro h; funext b
      obtain rfl : b = 0 := Fin.fin_one_eq_zero b
      exact Fin.ext (h0.trans (congrArg Fin.val h))
  unfold Host.argReduceFiber
  rw [List.mem_map]
  constructor
  · rintro ⟨m, hm, rfl⟩
    have hm' := of_decide_eq_true (List.mem_filter.1 hm).2
    generalize S9216x8192.rowMajor.symm m = i at hm' ⊢
    have h0 := (hd i).1 hm'
    refine ⟨i 1, ?_⟩
    rw [← h0]
    exact Prod.ext (congrArg A (eq_ix2 i)) rfl
  · rintro ⟨r, rfl⟩
    refine ⟨S9216x8192.rowMajor (ix2 n r), List.mem_filter.2 ⟨List.mem_finRange _, decide_eq_true ?_⟩, ?_⟩
    · rw [Equiv.symm_apply_apply]; exact (hd _).2 rfl
    · rw [Equiv.symm_apply_apply]; rfl

/-- The reference's code of a token whose weights exceed minus infinity is the first position of its largest weight. -/
theorem v78_at (A : FVec Ideal S9216x8192 .f32) (n : Fin 9216) (k : Fin 8192) (hA : ∀ r, (⊥ : EReal) < A (ix2 n r))
    (hk : FirstMost (fun r => A (ix2 n r)) k) : f_v78 (F := Ideal) A (ix1 n) = BitVec.ofNat 32 k.val := by
  have hint : ∀ r : Fin 8192, (BitVec.ofNat 32 r.val).toInt = r.val := fun r => by
    rw [BitVec.toInt_eq_toNat_of_msb (by rw [BitVec.msb_eq_false_iff_two_mul_lt]; simp; omega)]
    simp; omega
  rw [v78_fold, fold_red (A (ix2 n k), BitVec.ofNat 32 k.val)]
  · left
    show Ideal.ofBits .f32 0xFF800000#32 < _
    rw [ofBits_neg_inf]; exact hA k
  · intro q hq
    obtain ⟨r, rfl⟩ := (mem_row A n q).1 hq
    by_cases h : A (ix2 n r) < A (ix2 n k)
    · exact Or.inl h
    · have he : A (ix2 n r) = A (ix2 n k) := le_antisymm (hk.1 r) (not_lt.1 h)
      refine Or.inr ⟨he, ?_⟩
      show (BitVec.ofNat 32 k.val).toInt ≤ (BitVec.ofNat 32 r.val).toInt
      rw [hint, hint]
      by_contra hc
      exact h (hk.2 r (by rw [Fin.lt_def]; omega))
  · exact Or.inr ((mem_row A n _).2 ⟨k, rfl⟩)

end Cert.Vq.Ref
-- ==== Proof.Vq.KBody.lean ====
/- What the kernel body stores, read at an index. -/
module

public import proofs.«01_k».proof.Proof.Vq.Spec
public import proofs.«01_k».proof.Proof.Gen.KernelIdeal.Skeleton
public import Idealize.ShloMosaic.Lib.Pointwise

@[expose] public section

set_option maxRecDepth 16384

noncomputable section

namespace Cert.Vq.Ker

open Cert.KernelIdeal Cert.KernelIdeal.Gen Idealize.ShloMosaic Idealize.ShloMosaic.TcCoe Idealize.SL.Sem

/-- The lane of the kernel's padded bit table: the code's bit on the first thirteen lanes, zero on the others. -/
def lane (t : Fin k0_t1_loop.trips) (r : Fin 1024) (q : Fin 128) : EReal :=
  Scalar.select (IntOp.cmpi .sge (IntOp.subi 12#32 (BitVec.ofNat 32 q.val)) 0#32)
    (FloatOps.sitofp .f32 (IntOp.andi (IntOp.shrsi .vector
      (IntOp.addi (IntOp.muli (Scf.iv 0#32 1#32 t) 1024#32) (BitVec.ofNat 32 r.val))
      (IntOp.maxsi (IntOp.subi 12#32 (BitVec.ofNat 32 q.val)) 0#32)) 1#32) : Ideal .f32) 0

/-- The embeddings of a trip's codes, before the last bias. -/
theorem pay1_at (t : Fin k0_t1_loop.trips) (w : FVec Ideal S128x1024 .f32) (b1 : FVec Ideal S1x1024 .f32) (W2 : FVec Ideal S1024x1024 .f32)
    (b2 : FVec Ideal S1x1024 .f32) (W3 : FVec Ideal S64x1024 .f32) (r : Fin 1024) (d : Fin 64) :
    k0_pay1 (F := Ideal) 0#32 1#32 t w b1 W2 b2 W3 (ix2 r d)
      = ∑ l : Fin 1024, max ((∑ j : Fin 1024, max ((∑ q : Fin 128, lane t r q * w (ix2 q j)) + b1 (ix2 0 j)) 0 * W2 (ix2 l j)) + b2 (ix2 0 l)) 0
          * W3 (ix2 d l) := by
  pointwise! [k0_pay1, lane]

/-- The transposed normalised embeddings with the factor minus two. -/
theorem pay2_at (v : FVec Ideal S1024x64 .f32) (b3 : FVec Ideal S1x64 .f32) (r : Fin 1024) (d : Fin 64) :
    k0_pay2 (F := Ideal) v b3 (ix2 d r) = nrm (fun e => v (ix2 r e) + b3 (ix2 0 e)) d * ((-2 : ℝ) : EReal) := by
  pointwise [k0_pay2, nrm, eps]
  rw [ofBits_neg_two, mul_comm]

/-- One quarter of the square norms of the columns. -/
theorem pay3_at (v : FVec Ideal S64x8192 .f32) (r : Fin 8192) :
    k0_pay3 (F := Ideal) v (ix2 0 r) = ((1 / 4 : ℝ) : EReal) * ∑ d : Fin 64, v (ix2 d r) * v (ix2 d r) := by
  pointwise [k0_pay3]
  rw [ofBits_quarter]

/-- The first result's block is the transposed input block. -/
theorem pay5_at (x : FVec Ideal S1x768x576 .f32) (t : Fin 576) (k : Fin 768) :
    k0_pay5 (F := Ideal) x (ix3 0 t k) = x (ix3 0 k t) := by
  pointwise! [k0_pay5, k0_pay4]

/-- The distances the kernel takes the least of. -/
def dists (v3 : FVec Ideal S1x768x576 .f32) (v9 : FVec Ideal S64x768 .f32) (v11 : FVec Ideal S1x64 .f32) (v26 : FVec Ideal S64x8192 .f32)
    (v27 : FVec Ideal S1x8192 .f32) : FVec Ideal S576x8192 .f32 :=
  have cst : FVec Ideal S576x64 .f32 := constant S576x64 .f32 0x00000000#32
  have v10 : FVec Ideal S576x64 .f32 := matmul dot_S576x768_S64x768_S576x64_1_1_0_0_n_n none (k0_pay4 v3) v9 cst
  have v12 : FVec Ideal S1x64 .f32 := shapeCast S1x64 v11 shapeCasts_S1x64_S1x64
  have v13 : FVec Ideal S576x64 .f32 := broadcastTo S576x64 v12 broadcasts_S1x64_S576x64
  have v14 : FVec Ideal S576x64 .f32 := addf v10 v13
  have v15 : FVec Ideal S576x64 .f32 := mulf v14 v14
  have v16 : FVec Ideal S576 .f32 := multiReduction .add [1] S576 v15 0x00000000#32 reduces_S576x64_S576 (.inl rfl) rfl
  have v17 : FVec Ideal S576x1 .f32 := shapeCast S576x1 v16 shapeCasts_S576_S576x1
  have v18 : FVec Ideal S576x1 .f32 := sqrt v17
  have cst_11 : Ideal .f32 := Scalar.ofBits .f32 0x358637BD#32
  have v19 : FVec Ideal S576x1 .f32 := broadcast S576x1 cst_11
  have v20 : FVec Ideal S576x1 .f32 := addf v18 v19
  have v21 : FVec Ideal S576x64 .f32 := broadcastTo S576x64 v20 broadcasts_S576x1_S576x64
  have v22 : FVec Ideal S576x64 .f32 := divf v14 v21
  have v23 : FVec Ideal S576x64 .f32 := mulf v22 v22
  have v24 : FVec Ideal S576 .f32 := multiReduction .add [1] S576 v23 0x00000000#32 reduces_S576x64_S576 (.inl rfl) rfl
  have v25 : FVec Ideal S576x1 .f32 := shapeCast S576x1 v24 shapeCasts_S576_S576x1
  have cst_17 : FVec Ideal S576x8192 .f32 := constant S576x8192 .f32 0x00000000#32
  have v28 : FVec Ideal S576x8192 .f32 := matmul dot_S576x64_S64x8192_S576x8192_1_0_0_1_n_n none v22 v26 cst_17
  have v29 : FVec Ideal S576x8192 .f32 := broadcastTo S576x8192 v25 broadcasts_S576x1_S576x8192
  have v30 : FVec Ideal S576x8192 .f32 := broadcastTo S576x8192 v27 broadcasts_S1x8192_S576x8192
  have v31 : FVec Ideal S576x8192 .f32 := addf v29 v30
  addf v31 v28

/-- The codes' block is the index reduction of the distances. -/
theorem pay6_eq (v3 : FVec Ideal S1x768x576 .f32) (v9 : FVec Ideal S64x768 .f32) (v11 : FVec Ideal S1x64 .f32) (v26 : FVec Ideal S64x8192 .f32)
    (v27 : FVec Ideal S1x8192 .f32) :
    k0_pay6 (F := Ideal) v3 v9 v11 v26 v27
      = shapeCast S1x1x576 (reduceIndex .argMin 1 S576 (dists v3 v9 v11 v26 v27) reduces_S576x8192_S576) shapeCasts_S576_S1x1x576 := rfl

/-- A block of codes read at a token. -/
theorem cast_at (v : IVec S576 32) (t : Fin 576) : shapeCast S1x1x576 v shapeCasts_S576_S1x1x576 (ix3 0 0 t) = v (ix1 t) := by
  pointwise

/-- The projected token of a block. -/
def tokb (v3 : FVec Ideal S1x768x576 .f32) (v9 : FVec Ideal S64x768 .f32) (v11 : FVec Ideal S1x64 .f32) (t : Fin 576) (d : Fin 64) : EReal :=
  (∑ k : Fin 768, v3 (ix3 0 k t) * v9 (ix2 d k)) + v11 (ix2 0 d)

/-- The distance of a token to a code. -/
theorem dists_at (v3 : FVec Ideal S1x768x576 .f32) (v9 : FVec Ideal S64x768 .f32) (v11 : FVec Ideal S1x64 .f32) (v26 : FVec Ideal S64x8192 .f32)
    (v27 : FVec Ideal S1x8192 .f32) (t : Fin 576) (r : Fin 8192) :
    dists v3 v9 v11 v26 v27 (ix2 t r)
      = ((∑ d, nrm (tokb v3 v9 v11 t) d * nrm (tokb v3 v9 v11 t) d) + v27 (ix2 0 r)) + ∑ d, nrm (tokb v3 v9 v11 t) d * v26 (ix2 d r) := by
  pointwise! [dists, k0_pay4, nrm, eps, tokb]

/-- The position a reduced index of the distances keeps. -/
theorem drop_iff (i : S576x8192.Idx) (t : Fin 576) : reduces_S576x8192_S576.drop i = ix1 t ↔ i 0 = t := by
  have h0 := reduces_S576x8192_S576.drop_apply_val_of_eq i 0 0
  constructor
  · intro e; rw [e] at h0; exact Fin.ext h0.symm
  · intro e; funext c
    obtain rfl : c = 0 := Fin.fin_one_eq_zero c
    exact Fin.ext (h0.trans (congrArg Fin.val e))

/-- The least element of a set of numbers that has a least element. -/
theorem min_getD (s : Finset ℕ) (k : ℕ) (hk : k ∈ s) (h : ∀ j ∈ s, k ≤ j) : s.min.getD 0 = k := by
  have e : s.min = (k : WithTop ℕ) := le_antisymm (Finset.min_le hk) (Finset.le_min fun j hj => WithTop.coe_le_coe.2 (h j hj))
  rw [e]; rfl

/-- The least value of `g` on the chosen members of a finite set, given a chosen member where it is attained. -/
theorem chosen_min {ι : Type} (A : Finset ι) (P : ι → Prop) (inst : DecidablePred P) (g : ι → ℕ) (k : ℕ) (i0 : ι) (h0 : i0 ∈ A) (h1 : P i0)
    (h2 : g i0 = k) (h : ∀ i ∈ A, P i → k ≤ g i) : ((A.filter P).image g).min.getD 0 = k :=
  min_getD _ _ (Finset.mem_image.2 ⟨i0, Finset.mem_filter.2 ⟨h0, h1⟩, h2⟩) fun j hj => by
    obtain ⟨i, hi, rfl⟩ := Finset.mem_image.1 hj
    exact h i (Finset.mem_filter.1 hi).1 (Finset.mem_filter.1 hi).2

/-- An index reduction along the codes yields the first position of the token's least distance. -/
theorem argMin_at (D : FVec Ideal S576x8192 .f32) (t : Fin 576) (k : Fin 8192)
    (hk : FirstLeast (fun r => D (ix2 t r)) k) : Ideal.reduceIndex .argMin 1 reduces_S576x8192_S576 D (ix1 t) = BitVec.ofNat 32 k.val := by
  unfold Ideal.reduceIndex
  refine congrArg (BitVec.ofNat 32) ?_
  refine chosen_min _ _ _ _ _ (ix2 t k) (Finset.mem_filter.2 ⟨Finset.mem_univ _, (drop_iff _ _).2 rfl⟩) (fun i' hi' => ?_) rfl fun i hi hb => ?_
  · have h0 := (drop_iff _ _).1 (Finset.mem_filter.1 hi').2
    have e : i' = ix2 t (i' 1) := by rw [← h0]; exact eq_ix2 i'
    rw [e]
    exact not_lt.2 (hk.1 (i' 1))
  · have h0 := (drop_iff _ _).1 (Finset.mem_filter.1 hi).2
    have e : i = ix2 t (i 1) := by rw [← h0]; exact eq_ix2 i
    refine not_lt.1 fun hlt => ?_
    have h1 := hb (ix2 t k) (Finset.mem_filter.2 ⟨Finset.mem_univ _, (drop_iff _ _).2 rfl⟩)
    rw [e] at h1
    exact h1 (hk.2 (i 1) hlt)

/-- On a trip's lane below thirteen the padded table holds the code's bit. -/
theorem lane_bit (t : Fin k0_t1_loop.trips) (r : Fin 1024) (k : Fin 13) (R : Fin 8192) (hR : R.val = 1024 * t.val + r.val) :
    lane t r ⟨k.val, by omega⟩ = bit R k := by
  have h1 : ∀ k : Fin 13, IntOp.cmpi .sge (IntOp.subi 12#32 (BitVec.ofNat 32 k.val)) 0#32 = 1#1 := by decide
  have h2 : ∀ k : Fin 13, IntOp.maxsi (IntOp.subi 12#32 (BitVec.ofNat 32 k.val)) 0#32 = BitVec.ofNat 32 (12 - k.val) := by decide
  have h3 : ∀ t : Fin 8, IntOp.muli (Scf.iv 0#32 1#32 t) 1024#32 = BitVec.ofNat 32 (1024 * t.val) := by decide
  have h4 : IntOp.addi (IntOp.muli (Scf.iv 0#32 1#32 t) 1024#32) (BitVec.ofNat 32 r.val) = BitVec.ofNat 32 R.val := by
    rw [show IntOp.muli (Scf.iv 0#32 1#32 t) 1024#32 = BitVec.ofNat 32 (1024 * t.val) from h3 t, hR, BitVec.ofNat_add]; rfl
  unfold lane
  show Scalar.select (IntOp.cmpi .sge (IntOp.subi 12#32 (BitVec.ofNat 32 k.val)) 0#32)
    (FloatOps.sitofp .f32 (IntOp.andi (IntOp.shrsi .vector _ (IntOp.maxsi (IntOp.subi 12#32 (BitVec.ofNat 32 k.val)) 0#32)) 1#32) : Ideal .f32) 0 = _
  rw [h1 k, h2 k, h4]
  exact bit_shifted R (12 - k.val) (by omega)

/-- A sum over the padded lanes whose tail vanishes is the sum over the first thirteen. -/
theorem sum_lanes (f : Fin 128 → EReal) (h : ∀ q : Fin 128, 13 ≤ q.val → f q = 0) : ∑ q, f q = ∑ k : Fin 13, f ⟨k.val, by omega⟩ := by
  rw [show (∑ q, f q) = ∑ q : Fin (13 + 115), f q from rfl, Fin.sum_univ_add]
  rw [Finset.sum_eq_zero (s := Finset.univ) (f := fun i : Fin 115 => f (Fin.natAdd 13 i)) fun i _ => h _ (by simp), add_zero]
  rfl

end Cert.Vq.Ker
-- ==== Proof.Vq.KCase.lean ====
/- What the body leaves in its results' blocks and in the two scratch buffers, per case, as values. -/
module

public import proofs.«01_k».proof.Proof.Vq.KBody
public import proofs.«01_k».proof.Proof.Gen.KernelIdeal.Frame
public import Idealize.ShloMosaic.Lib.Pipeline.ValueKit

@[expose] public section

set_option maxRecDepth 16384

noncomputable section

namespace Cert.Vq.Ker

open Cert.KernelIdeal Cert.KernelIdeal.Gen Idealize.ShloMosaic Idealize.ShloMosaic.TcCoe Idealize.SL.Sem

/-- The normalised embeddings the loop leaves, factor minus two, transposed: column `1024 t + r` is trip `t`'s column `r`. -/
def etab (x0 : Vec Ideal S128x1024 .f32) (x1 : Vec Ideal S1x1024 .f32) (x2 : Vec Ideal S1024x1024 .f32) (x3 : Vec Ideal S1x1024 .f32)
    (x4 : Vec Ideal S64x1024 .f32) (x5 : Vec Ideal S1x64 .f32) : FVec Ideal S64x8192 .f32 := fun y =>
  k0_pay2 (F := Ideal) (k0_pay1 0#32 1#32 (show Fin k0_t1_loop.trips from ⟨(y 1).val / 1024, by
    have h := (y 1).isLt; have h' : (S64x8192.size 1) = 8192 := rfl
    show _ < 8; omega⟩) x0 x1 x2 x3 x4) x5 (ix2 (y 0) ⟨(y 1).val % 1024, Nat.mod_lt _ (by omega)⟩)

/-- One trip's piece. -/
theorem trip_eq (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (k0_h1 : k0_cond1 i = 1#1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 k = [⟨Rect.unit (k0_off1 k) S64x1024.size (k0_off1_inb i k k0_h1), k0_pay2 (F := Ideal) (k0_pay1 0#32 1#32 k (arg1.view.read (Elt Ideal) X_arg1) (arg2.view.read (Elt Ideal) X_arg2) (arg3.view.read (Elt Ideal) X_arg3) (arg4.view.read (Elt Ideal) X_arg4) (arg5.view.read (Elt Ideal) X_arg5)) (arg6.view.read (Elt Ideal) X_arg6)⟩] := by
  unfold tripL_k0_t1 trip_k0_t1
  dsimp only
  frame_out

/-- A trip's piece agrees with the table where it lies. -/
theorem tile (k : Fin k0_t1_loop.trips) (x0 : Vec Ideal S128x1024 .f32) (x1 : Vec Ideal S1x1024 .f32) (x2 : Vec Ideal S1024x1024 .f32) (x3 : Vec Ideal S1x1024 .f32)
    (x4 : Vec Ideal S64x1024 .f32) (x5 : Vec Ideal S1x64 .f32) (y : S64x8192.Idx) (x : S64x1024.Idx) (h : ∀ a, (y a : ℕ) = k0_off1 k a + x a) :
    k0_pay2 (F := Ideal) (k0_pay1 0#32 1#32 k x0 x1 x2 x3 x4) x5 x = etab x0 x1 x2 x3 x4 x5 y := by
  have hoff : k0_off1 k 0 = 0 ∧ k0_off1 k 1 = 1024 * k.val :=
    (by decide +kernel : ∀ k : Fin k0_t1_loop.trips, k0_off1 k 0 = 0 ∧ k0_off1 k 1 = 1024 * k.val) k
  have e0 := h 0
  have e1 := h 1
  rw [hoff.1] at e0
  rw [hoff.2] at e1
  have hx : (x 1).val < 1024 := (x 1).isLt
  have hk : (⟨(y 1).val / 1024, by rw [e1]; have := k.isLt; have h8 : k0_t1_loop.trips = 8 := by decide +kernel
                                   omega⟩ : Fin k0_t1_loop.trips) = k := Fin.ext (by show (y 1).val / 1024 = _; omega)
  have hy0 : y 0 = x 0 := Fin.ext (by omega)
  have hy1 : (⟨(y 1).val % 1024, Nat.mod_lt _ (by omega)⟩ : Fin 1024) = x 1 := Fin.ext (by show (y 1).val % 1024 = _; omega)
  unfold etab
  rw [hy1, hy0]
  conv_lhs => rw [eq_ix2 x]
  exact (congrArg (fun q => k0_pay2 (F := Ideal) (k0_pay1 0#32 1#32 q x0 x1 x2 x3 x4) x5 (ix2 (x 0) (x 1))) hk).symm

/-- Every piece the loop has written agrees with the table. -/
theorem pb_all (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (k0_h1 : k0_cond1 i = 1#1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) : ∀ (n : ℕ) (y : S64x8192.Idx),
    View.AllAt (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 n) y (etab (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) y)
  | 0, y => by rw [pb_k0_t1.eq_1]; exact View.allAt_nil _ _
  | n + 1, y => by
    rw [pb_k0_t1.eq_2]; unfold pb_k0_t1Step
    split
    · rename_i hn
      rw [trip_eq]
      exact View.allAt_cons_unit _ _ _ _ _ (fun x hx => tile ⟨n, hn⟩ _ _ _ _ _ _ y x hx) (pb_all 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 n y)
    · exact pb_all 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 n y

/-- What the loop leaves, read back. -/
theorem pb_canon (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (k0_h1 : k0_cond1 i = 1#1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 (Scf.trips (0#32) (Scalar.addi 0#32 8#32) 1#32)) = etab (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) :=
  funext fun y => View.canon_eq_of_allAt _ y _
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 (Scf.trips (0#32) (Scalar.addi 0#32 8#32) 1#32)) S64x1024.size (by sl_kernel_rfl) y)
    (pb_all 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 _ y)

/-- What a load of the whole buffer after the loop reads. -/
theorem pb_read (𝒱 : Variants) (c : Dev nD) (bd : Option 𝒱.V) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (k0_h1 : k0_cond1 i = 1#1) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    arg12.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 (Scf.trips (0#32) (Scalar.addi 0#32 8#32) 1#32)) (Rect.unit ![0, 0] ![64, 8192] inb_S64x8192_S64x8192_0_0).toLoadRect = etab (arg1.view.read (Elt Ideal) X_arg1) (arg2.view.read (Elt Ideal) X_arg2) (arg3.view.read (Elt Ideal) X_arg3) (arg4.view.read (Elt Ideal) X_arg4) (arg5.view.read (Elt Ideal) X_arg5) (arg6.view.read (Elt Ideal) X_arg6) := by
  rw [View.readCov_eq_canon_ld _ _ _ (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg2 X_arg3 X_arg4 X_arg5 X_arg6 (Scf.trips (0#32) (Scalar.addi 0#32 8#32) 1#32)) S64x1024.size (by sl_kernel_rfl)), pb_canon]
  exact View.ld_unit_lit' (S := S64x8192) _ _ (by decide)

/-- The scratch after the first point. -/
theorem sout_A_0 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = etab x0 x1 x2 x3 x4 x5 := by
  frame_out
  refine (pb_canon ..).trans ?_
  rw [harg1.read_unread, harg2.read_unread, harg3.read_unread, harg4.read_unread, harg5.read_unread, harg6.read_unread]

/-- The second scratch after the first point. -/
theorem sout_A_1 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 (F := Ideal) (etab x0 x1 x2 x3 x4 x5) := by
  frame_out
  refine congrArg _ ((pb_read ..).trans ?_)
  rw [harg1.read_unread, harg2.read_unread, harg3.read_unread, harg4.read_unread, harg5.read_unread, harg6.read_unread]

/-- The first result's block at the first point. -/
theorem out_A_9 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay5 (F := Ideal) x6 := by
  frame_out

/-- The codes' block at the first point. -/
theorem out_A_10 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay6 (F := Ideal) x6 x7 x8 (etab x0 x1 x2 x3 x4 x5) (k0_pay3 (F := Ideal) (etab x0 x1 x2 x3 x4 x5)) := by
  frame_out
  rw [pb_read, harg1.read_unread, harg2.read_unread, harg3.read_unread, harg4.read_unread, harg5.read_unread, harg6.read_unread]

/-- The first result's block at a later point. -/
theorem out_B_9 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : ¬cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) (xs0 : Vec Ideal S64x8192 .f32) (xs1 : Vec Ideal S1x8192 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay5 (F := Ideal) x6 := by
  frame_out

/-- The codes' block at a later point. -/
theorem out_B_10 (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S1x64 .f32) (harg6 : arg6.IsWhole) (arg7 : Memref sig .tc .vmem S1x768x576 .f32) (harg7 : arg7.IsWhole) (arg8 : Memref sig .tc .vmem S64x768 .f32) (harg8 : arg8.IsWhole) (arg9 : Memref sig .tc .vmem S1x64 .f32) (harg9 : arg9.IsWhole) (arg10 : Memref sig .tc .vmem S1x576x768 .f32) (harg10 : arg10.IsWhole) (arg11 : Memref sig .tc .vmem S1x1x576 .i32) (harg11 : arg11.IsWhole) (arg12 : Memref sig .tc .vmem S64x8192 .f32) (harg12 : arg12.IsWhole) (arg13 : Memref sig .tc .vmem S1x8192 .f32) (harg13 : arg13.IsWhole) (hc0 : ¬cond0_0 i)
    (x0 : Vec Ideal S128x1024 .f32) (x1 : Vec Ideal S1x1024 .f32) (x2 : Vec Ideal S1024x1024 .f32) (x3 : Vec Ideal S1x1024 .f32) (x4 : Vec Ideal S64x1024 .f32) (x5 : Vec Ideal S1x64 .f32) (x6 : Vec Ideal S1x768x576 .f32) (x7 : Vec Ideal S64x768 .f32) (x8 : Vec Ideal S1x64 .f32) (xs0 : Vec Ideal S64x8192 .f32) (xs1 : Vec Ideal S1x8192 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay6 (F := Ideal) x6 x7 x8 xs0 xs1 := by
  frame_out

end Cert.Vq.Ker
-- ==== Proof.Vq.KHost.lean ====
/- What the kernel's windows hold when the region starts: the host's padded and reshaped arrays, read at an index. -/
module

public import proofs.«01_k».proof.Proof.Vq.KCase
public import Idealize.ShloMosaic.Lib.Claim
public import Idealize.ShloMosaic.Lib.Routing.OpsSet

@[expose] public section

set_option maxRecDepth 16384

noncomputable section

namespace Cert.Vq.Ker

open Cert.KernelIdeal Cert.KernelIdeal.Gen Idealize.ShloMosaic Idealize.ShloMosaic.TcCoe Idealize.SL.Sem

/-- The one row block of the padding lands at the top: its entry `(a, b)` at `(a, b)`. -/
theorem lands (idx : IVec S1 32) (h0 : ∀ i, idx i = 0#32) (k : S13x1024.Idx) (q : Fin 128) (j : Fin 1024) :
    scatter_S128x1024_S1_S13x1024_01_n_0_0.resultIdx? k idx = some (ix2 q j) ↔ (k 0).val = q.val ∧ (k 1).val = j.val := by
  have hs : ∀ a, scatter_S128x1024_S1_S13x1024_01_n_0_0.start k idx a = 0 := fun a => by
    unfold ScatterDims.start
    split
    · rw [h0]; rfl
    · rfl
  have hw0 : scatter_S128x1024_S1_S13x1024_01_n_0_0.window k 0 = (k 0).val := by
    unfold ScatterDims.window
    rw [dif_pos (by decide)]
    rfl
  have hw1 : scatter_S128x1024_S1_S13x1024_01_n_0_0.window k 1 = (k 1).val := by
    unfold ScatterDims.window
    rw [dif_pos (by decide)]
    rfl
  have hx : (ix2 q j : S128x1024.Idx) = ValueIdx.ix2 q j := by
    funext a; match a with | 0 => rfl | 1 => rfl
  rw [hx, Routing.resultIdx?_ix2, hs, hs, hw0, hw1]
  omega

/-- The padded first layer read at a lane: the layer's transposed weights on the first thirteen lanes, zero below. -/
theorem pad_at (x : FVec Ideal S128x1024 .f32) (hx : ∀ i, x i = 0) (idx : IVec S1 32) (h0 : ∀ i, idx i = 0#32) (u : FVec Ideal S13x1024 .f32) (q : Fin 128) (j : Fin 1024) :
    Host.scatter scatter_S128x1024_S1_S13x1024_01_n_0_0 (fun _ b => b) x idx u (ix2 q j)
      = if h : q.val < 13 then u (ix2 ⟨q.val, h⟩ j) else (0 : EReal) := by
  split
  · rename_i h
    refine Routing.scatter_set_hit _ x idx u _ _ (fun k hk => ?_) (ix2 ⟨q.val, h⟩ j) ((lands idx h0 _ q j).2 ⟨rfl, rfl⟩)
    have e := (lands idx h0 k q j).1 hk
    exact congrArg u ((eq_ix2 k).trans (congrArg₂ (fun a b => ix2 a b) (Fin.ext e.1 : k 0 = ⟨q.val, h⟩) (Fin.ext e.2 : k 1 = j)))
  · rename_i h
    refine (Routing.scatter_set_miss _ x idx u _ fun k hk => h ?_).trans (hx _)
    have e := (lands idx h0 k q j).1 hk
    have := (k 0).isLt
    have h13 : S13x1024.size 0 = 13 := rfl
    omega

variable (m : (ℓ : Loc nD τ sig) → Buf (Elt Ideal) ℓ)

theorem V_host (c : Dev nD) (b : Ref sig .tc) : V m c b = StableHlo.after hostOps0 (fun b => m (c, b)) (Proc.tc.devRef b) := rfl

theorem V_v3 (c : Dev nD) : V m c main_v3 = Host.scatter scatter_S128x1024_S1_S13x1024_01_n_0_0 (fun _ b => b)
    (broadcastInDim S128x1024 ![] bcast_S_S128x1024 (constant (F := Ideal) S_ .f32 0x00000000#32)) (broadcastInDim S1 ![] bcast_S_S1 (constantI S_ 32 0#32))
    (transpose S13x1024 [1, 0] (m (c.tc.loc main_arg1) : FVec Ideal S1024x13 .f32) transposes_S1024x13_S13x1024_1_0) := by
  rw [V_host]; after_results; try rfl

theorem V_v4 (c : Dev nD) : V m c main_v4 = shapeCast S1x1024 (m (c.tc.loc main_arg2) : FVec Ideal S1024 .f32) shapeCasts_S1024_S1x1024 := by
  rw [V_host]; after_results; try rfl
theorem V_v5 (c : Dev nD) : V m c main_v5 = shapeCast S1x1024 (m (c.tc.loc main_arg4) : FVec Ideal S1024 .f32) shapeCasts_S1024_S1x1024 := by
  rw [V_host]; after_results; try rfl
theorem V_v6 (c : Dev nD) : V m c main_v6 = shapeCast S1x64 (m (c.tc.loc main_arg6) : FVec Ideal S64 .f32) shapeCasts_S64_S1x64 := by
  rw [V_host]; after_results; try rfl
theorem V_v7 (c : Dev nD) : V m c main_v7 = shapeCast S1x64 (m (c.tc.loc main_arg8) : FVec Ideal S64 .f32) shapeCasts_S64_S1x64 := by
  rw [V_host]; after_results; try rfl
theorem V_arg0 (c : Dev nD) : V m c main_arg0 = m (c.tc.loc main_arg0) := by
  rw [V_host]; after_results; try rfl
theorem V_arg3 (c : Dev nD) : V m c main_arg3 = m (c.tc.loc main_arg3) := by
  rw [V_host]; after_results; try rfl
theorem V_arg5 (c : Dev nD) : V m c main_arg5 = m (c.tc.loc main_arg5) := by
  rw [V_host]; after_results; try rfl
theorem V_arg7 (c : Dev nD) : V m c main_arg7 = m (c.tc.loc main_arg7) := by
  rw [V_host]; after_results; try rfl

/-- Which block each window reads at a point. -/
theorem idx : ∀ t : Fin cfg0.N, (win0_0.index t = ![0, 0] ∧ win0_1.index t = ![0, 0] ∧ win0_2.index t = ![0, 0] ∧ win0_3.index t = ![0, 0]
    ∧ win0_4.index t = ![0, 0] ∧ win0_5.index t = ![0, 0]) ∧ win0_6.index t = ![t.val, 0, 0] ∧ win0_7.index t = ![0, 0] ∧ win0_8.index t = ![0, 0]
    ∧ win0_9.index t = ![t.val, 0, 0] ∧ win0_10.index t = ![t.val, 0, 0] :=
  (by decide +kernel : ∀ t : Fin grid0.N, _)

theorem b0 (c : Dev nD) (t : Fin cfg0.N) (q : Fin 128) (j : Fin 1024) : (iblk m c 0 t : FVec Ideal S128x1024 .f32) (ix2 q j)
    = if h : q.val < 13 then (m (c.tc.loc main_arg1) : FVec Ideal S1024x13 .f32) (ix2 j ⟨q.val, h⟩) else (0 : EReal) := by
  have e : (iblk m c 0 t : FVec Ideal S128x1024 .f32) (ix2 q j) = (V m c main_v3 : FVec Ideal S128x1024 .f32) (ix2 q j) := by
    blk_point [iblk, idx t]
  have hz : ∀ i, broadcastInDim S128x1024 ![] bcast_S_S128x1024 (constant (F := Ideal) S_ .f32 0x00000000#32) i = (0 : EReal) := fun i => by
    pointwise
  have hi : ∀ i, broadcastInDim S1 ![] bcast_S_S1 (constantI S_ 32 0#32) i = 0#32 := fun i => rfl
  rw [e, V_v3, pad_at _ hz _ hi]
  split
  · pointwise
  · rfl

theorem b1 (c : Dev nD) (t : Fin cfg0.N) (j : Fin 1024) : (iblk m c 1 t : FVec Ideal S1x1024 .f32) (ix2 0 j)
    = (m (c.tc.loc main_arg2) : FVec Ideal S1024 .f32) (ix1 j) := by
  have e : (iblk m c 1 t : FVec Ideal S1x1024 .f32) (ix2 0 j) = (V m c main_v4 : FVec Ideal S1x1024 .f32) (ix2 0 j) := by
    blk_point [iblk, idx t]
  rw [e, V_v4]; pointwise

theorem b2 (c : Dev nD) (t : Fin cfg0.N) (l j : Fin 1024) : (iblk m c 2 t : FVec Ideal S1024x1024 .f32) (ix2 l j)
    = (m (c.tc.loc main_arg3) : FVec Ideal S1024x1024 .f32) (ix2 l j) := by
  have e : (iblk m c 2 t : FVec Ideal S1024x1024 .f32) (ix2 l j) = (V m c main_arg3 : FVec Ideal S1024x1024 .f32) (ix2 l j) := by
    blk_point [iblk, idx t]
  rw [e, V_arg3]

theorem b3 (c : Dev nD) (t : Fin cfg0.N) (j : Fin 1024) : (iblk m c 3 t : FVec Ideal S1x1024 .f32) (ix2 0 j)
    = (m (c.tc.loc main_arg4) : FVec Ideal S1024 .f32) (ix1 j) := by
  have e : (iblk m c 3 t : FVec Ideal S1x1024 .f32) (ix2 0 j) = (V m c main_v5 : FVec Ideal S1x1024 .f32) (ix2 0 j) := by
    blk_point [iblk, idx t]
  rw [e, V_v5]; pointwise

theorem b4 (c : Dev nD) (t : Fin cfg0.N) (d : Fin 64) (l : Fin 1024) : (iblk m c 4 t : FVec Ideal S64x1024 .f32) (ix2 d l)
    = (m (c.tc.loc main_arg5) : FVec Ideal S64x1024 .f32) (ix2 d l) := by
  have e : (iblk m c 4 t : FVec Ideal S64x1024 .f32) (ix2 d l) = (V m c main_arg5 : FVec Ideal S64x1024 .f32) (ix2 d l) := by
    blk_point [iblk, idx t]
  rw [e, V_arg5]

theorem b5 (c : Dev nD) (t : Fin cfg0.N) (d : Fin 64) : (iblk m c 5 t : FVec Ideal S1x64 .f32) (ix2 0 d)
    = (m (c.tc.loc main_arg6) : FVec Ideal S64 .f32) (ix1 d) := by
  have e : (iblk m c 5 t : FVec Ideal S1x64 .f32) (ix2 0 d) = (V m c main_v6 : FVec Ideal S1x64 .f32) (ix2 0 d) := by
    blk_point [iblk, idx t]
  rw [e, V_v6]; pointwise

theorem lt16 (t : Fin cfg0.N) : t.val < 16 := lt_of_lt_of_eq t.isLt N_0

theorem b6 (c : Dev nD) (t : Fin cfg0.N) (k : Fin 768) (n : Fin 576) : (iblk m c 6 t : FVec Ideal S1x768x576 .f32) (ix3 0 k n)
    = (m (c.tc.loc main_arg0) : FVec Ideal S16x768x576 .f32) (ix3 ⟨t.val, lt16 t⟩ k n) := by
  have e : (iblk m c 6 t : FVec Ideal S1x768x576 .f32) (ix3 0 k n) = (V m c main_arg0 : FVec Ideal S16x768x576 .f32) (ix3 ⟨t.val, lt16 t⟩ k n) := by
    blk_point [iblk, idx t]
  rw [e, V_arg0]

theorem b7 (c : Dev nD) (t : Fin cfg0.N) (d : Fin 64) (k : Fin 768) : (iblk m c 7 t : FVec Ideal S64x768 .f32) (ix2 d k)
    = (m (c.tc.loc main_arg7) : FVec Ideal S64x768 .f32) (ix2 d k) := by
  have e : (iblk m c 7 t : FVec Ideal S64x768 .f32) (ix2 d k) = (V m c main_arg7 : FVec Ideal S64x768 .f32) (ix2 d k) := by
    blk_point [iblk, idx t]
  rw [e, V_arg7]

theorem b8 (c : Dev nD) (t : Fin cfg0.N) (d : Fin 64) : (iblk m c 8 t : FVec Ideal S1x64 .f32) (ix2 0 d)
    = (m (c.tc.loc main_arg8) : FVec Ideal S64 .f32) (ix1 d) := by
  have e : (iblk m c 8 t : FVec Ideal S1x64 .f32) (ix2 0 d) = (V m c main_v7 : FVec Ideal S1x64 .f32) (ix2 0 d) := by
    blk_point [iblk, idx t]
  rw [e, V_v7]; pointwise

/-- The first point. -/
def t0 : Fin cfg0.N := ⟨0, (by decide +kernel : 0 < grid0.N)⟩

/-- The table the first point leaves in the scratch. -/
def E (c : Dev nD) : FVec Ideal S64x8192 .f32 :=
  etab (iblk m c 0 t0) (iblk m c 1 t0) (iblk m c 2 t0)
    (iblk m c 3 t0) (iblk m c 4 t0) (iblk m c 5 t0)

/-- What every point leaves: its blocks, and the first point's table in the scratch. -/
theorem outs (c : Dev nD) : ∀ (n : ℕ) (h : n < cfg0.N), outsAt0 m c n h
    = (k0_pay5 (F := Ideal) (iblk m c 6 ⟨n, h⟩), k0_pay6 (F := Ideal) (iblk m c 6 ⟨n, h⟩) (iblk m c 7 ⟨n, h⟩) (iblk m c 8 ⟨n, h⟩) (E m c) (k0_pay3 (F := Ideal) (E m c)),
      E m c, k0_pay3 (F := Ideal) (E m c))
  | 0, h => by
    rw [outsAt0_A m c ⟨0, h⟩ rfl, out_A_9, out_A_10, sout_A_0, sout_A_1]
    rfl
  | n + 1, h => by
    have hB : ¬(⟨n + 1, h⟩ : Fin cfg0.N).val % 16 = 0 := by have := lt16 ⟨n + 1, h⟩; dsimp only at this ⊢; omega
    rw [outsAt0_B m c ⟨n + 1, h⟩ hB, out_B_9, out_B_10]
    have ih := outs c n (Nat.lt_of_succ_lt h)
    have e0 : (outsAt0 m c ((⟨n + 1, h⟩ : Fin cfg0.N).val - 1) (Nat.lt_of_le_of_lt (Nat.sub_le _ _) h)).2.2.1 = E m c := congrArg (fun p => p.2.2.1) ih
    have e1 : (outsAt0 m c ((⟨n + 1, h⟩ : Fin cfg0.N).val - 1) (Nat.lt_of_le_of_lt (Nat.sub_le _ _) h)).2.2.2 = k0_pay3 (F := Ideal) (E m c) := congrArg (fun p => p.2.2.2) ih
    rw [e0, e1]
    rfl

end Cert.Vq.Ker
-- ==== Proof.Vq.KRun.lean ====
/- What the kernel's result arrays hold after the run, read at an index. -/
module

public import proofs.«01_k».proof.Proof.Vq.KHost

@[expose] public section

set_option maxRecDepth 16384

noncomputable section

namespace Cert.Vq.Ker

open Cert.KernelIdeal Cert.KernelIdeal.Gen Idealize.ShloMosaic Idealize.ShloMosaic.TcCoe Idealize.SL.Sem

variable (m : (ℓ : Loc nD τ sig) → Buf (Elt Ideal) ℓ)

/-- The row network on the bits of the number `R`, before normalising: two rectified layers and a third. -/
def embOf (W1 : FVec Ideal S1024x13 .f32) (a1 : FVec Ideal S1024 .f32) (W2 : FVec Ideal S1024x1024 .f32) (a2 : FVec Ideal S1024 .f32)
    (W3 : FVec Ideal S64x1024 .f32) (a3 : FVec Ideal S64 .f32) (R : Fin 8192) (d : Fin 64) : EReal :=
  (∑ l : Fin 1024, max ((∑ j : Fin 1024, max ((∑ k : Fin 13, bit R k * W1 (ix2 j k)) + a1 (ix1 j)) 0 * W2 (ix2 l j)) + a2 (ix1 l)) 0 * W3 (ix2 d l))
    + a3 (ix1 d)

/-- A token's projection, before normalising. -/
def tokOf (X : FVec Ideal S16x768x576 .f32) (W : FVec Ideal S64x768 .f32) (a : FVec Ideal S64 .f32) (i : Fin 16) (t : Fin 576) (d : Fin 64) : EReal :=
  (∑ k : Fin 768, X (ix3 i k t) * W (ix2 d k)) + a (ix1 d)

/-- The row network at the run's arguments. -/
def emb (c : Dev nD) : Fin 8192 → Fin 64 → EReal :=
  embOf (m (c.tc.loc main_arg1)) (m (c.tc.loc main_arg2)) (m (c.tc.loc main_arg3)) (m (c.tc.loc main_arg4)) (m (c.tc.loc main_arg5)) (m (c.tc.loc main_arg6))

/-- The projection at the run's arguments. -/
def tok (c : Dev nD) : Fin 16 → Fin 576 → Fin 64 → EReal :=
  tokOf (m (c.tc.loc main_arg0)) (m (c.tc.loc main_arg7)) (m (c.tc.loc main_arg8))

/-- One tile of the row network, over any blocks that hold the padded weights: its row for the number `R`. -/
theorem tile_at (w : FVec Ideal S128x1024 .f32) (x1 : FVec Ideal S1x1024 .f32) (x2 : FVec Ideal S1024x1024 .f32) (x3 : FVec Ideal S1x1024 .f32)
    (x4 : FVec Ideal S64x1024 .f32) (x5 : FVec Ideal S1x64 .f32)
    (W1 : FVec Ideal S1024x13 .f32) (a1 : FVec Ideal S1024 .f32) (W2 : FVec Ideal S1024x1024 .f32) (a2 : FVec Ideal S1024 .f32)
    (W3 : FVec Ideal S64x1024 .f32) (a3 : FVec Ideal S64 .f32)
    (h0 : ∀ (q : Fin 128) (j : Fin 1024), w (ix2 q j) = if h : q.val < 13 then W1 (ix2 j ⟨q.val, h⟩) else (0 : EReal))
    (h1 : ∀ j, x1 (ix2 0 j) = a1 (ix1 j)) (h2 : ∀ l j, x2 (ix2 l j) = W2 (ix2 l j)) (h3 : ∀ j, x3 (ix2 0 j) = a2 (ix1 j))
    (h4 : ∀ d l, x4 (ix2 d l) = W3 (ix2 d l)) (h5 : ∀ d, x5 (ix2 0 d) = a3 (ix1 d))
    (t : Fin k0_t1_loop.trips) (r : Fin 1024) (R : Fin 8192) (hR : R.val = 1024 * t.val + r.val) (e : Fin 64) :
    k0_pay1 (F := Ideal) 0#32 1#32 t w x1 x2 x3 x4 (ix2 r e) + x5 (ix2 0 e) = embOf W1 a1 W2 a2 W3 a3 R e := by
  have inner : ∀ j : Fin 1024, (∑ q : Fin 128, lane t r q * w (ix2 q j)) = ∑ k : Fin 13, bit R k * W1 (ix2 j k) := fun j => by
    refine (sum_lanes (fun q => lane t r q * w (ix2 q j)) fun q hq => ?_).trans (Finset.sum_congr rfl fun k _ => ?_)
    · show lane t r q * w (ix2 q j) = 0
      rw [h0, dif_neg (by omega), mul_zero]
    · show lane t r _ * w (ix2 _ j) = _
      rw [h0, dif_pos k.isLt, lane_bit t r k R hR]
  rw [pay1_at]
  unfold embOf
  simp only [inner, h1, h2, h3, h4, h5]

/-- The table over such blocks, read at a column. -/
theorem etab_at (w : FVec Ideal S128x1024 .f32) (x1 : FVec Ideal S1x1024 .f32) (x2 : FVec Ideal S1024x1024 .f32) (x3 : FVec Ideal S1x1024 .f32)
    (x4 : FVec Ideal S64x1024 .f32) (x5 : FVec Ideal S1x64 .f32)
    (W1 : FVec Ideal S1024x13 .f32) (a1 : FVec Ideal S1024 .f32) (W2 : FVec Ideal S1024x1024 .f32) (a2 : FVec Ideal S1024 .f32)
    (W3 : FVec Ideal S64x1024 .f32) (a3 : FVec Ideal S64 .f32)
    (h0 : ∀ (q : Fin 128) (j : Fin 1024), w (ix2 q j) = if h : q.val < 13 then W1 (ix2 j ⟨q.val, h⟩) else (0 : EReal))
    (h1 : ∀ j, x1 (ix2 0 j) = a1 (ix1 j)) (h2 : ∀ l j, x2 (ix2 l j) = W2 (ix2 l j)) (h3 : ∀ j, x3 (ix2 0 j) = a2 (ix1 j))
    (h4 : ∀ d l, x4 (ix2 d l) = W3 (ix2 d l)) (h5 : ∀ d, x5 (ix2 0 d) = a3 (ix1 d)) (d : Fin 64) (R : Fin 8192) :
    etab w x1 x2 x3 x4 x5 (ix2 d R) = nrm (embOf W1 a1 W2 a2 W3 a3 R) d * ((-2 : ℝ) : EReal) := by
  unfold etab
  refine (pay2_at _ _ _ d).trans ?_
  refine congrArg (fun v => nrm v d * ((-2 : ℝ) : EReal)) (funext fun e => ?_)
  exact tile_at w x1 x2 x3 x4 x5 W1 a1 W2 a2 W3 a3 h0 h1 h2 h3 h4 h5 _ _ R (Nat.div_add_mod _ _).symm e

/-- The table read at a column: the normalised embedding of the column's number, times minus two. -/
theorem E_at (c : Dev nD) (d : Fin 64) (R : Fin 8192) : E m c (ix2 d R) = nrm (emb m c R) d * ((-2 : ℝ) : EReal) :=
  etab_at _ _ _ _ _ _ _ _ _ _ _ _ (b0 m c t0) (b1 m c t0) (b2 m c t0) (b3 m c t0) (b4 m c t0) (b5 m c t0) d R

/-- The projection the body forms at a point is the token's. -/
theorem tokb_eq (c : Dev nD) (t : Fin cfg0.N) (n : Fin 576) :
    tokb (iblk m c 6 t) (iblk m c 7 t) (iblk m c 8 t) n = tok m c ⟨t.val, lt16 t⟩ n := by
  funext d
  unfold tokb tok tokOf
  rw [b8]
  congr 1
  refine Finset.sum_congr rfl fun k _ => ?_
  rw [b6, b7]

/-- The distances a point forms are the distances between its tokens' and the table's normalised vectors. -/
theorem dists_eq (c : Dev nD) (t : Fin cfg0.N) (n : Fin 576) (R : Fin 8192) :
    dists (iblk m c 6 t) (iblk m c 7 t) (iblk m c 8 t) (E m c) (k0_pay3 (F := Ideal) (E m c)) (ix2 n R)
      = dist (nrm (tok m c ⟨t.val, lt16 t⟩ n)) (nrm (emb m c R)) := by
  rw [dists_at, tokb_eq, pay3_at]
  obtain ⟨h, hh⟩ : ∃ h : Fin 64 → ℝ, nrm (tok m c ⟨t.val, lt16 t⟩ n) = fun d => ((h d : ℝ) : EReal) :=
    ⟨fun d => (nrm_real _ d).choose, funext fun d => (nrm_real _ d).choose_spec⟩
  obtain ⟨e, he⟩ : ∃ e : Fin 64 → ℝ, nrm (emb m c R) = fun d => ((e d : ℝ) : EReal) :=
    ⟨fun d => (nrm_real _ d).choose, funext fun d => (nrm_real _ d).choose_spec⟩
  have hE : ∀ d, E m c (ix2 d R) = (e d : EReal) * ((-2 : ℝ) : EReal) := fun d => by rw [E_at, he]
  simp only [hE]
  rw [hh, he]
  exact dist_folded h e

/-- The first result after the run: the input with its channels last. -/
theorem final9 (c : Dev nD) (i : Fin 16) (t : Fin 576) (k : Fin 768) :
    ((dats m 0 c).arrAt 9 (cfgs 0).N : FVec Ideal S16x576x768 .f32) (ix3 i t k) = (m (c.tc.loc main_arg0) : FVec Ideal S16x768x576 .f32) (ix3 i k t) := by
  have e : (dats m 0 c).arrAt 9 (cfgs 0).N = fun x : S16x576x768.Idx => (m (c.tc.loc main_arg0) : FVec Ideal S16x768x576 .f32) (ix3 (x 0) (x 2) (x 1)) := by
    refine (dats m 0 c).arrAt_eq_of_covers 9 _ (by decide +kernel) fun t hf y => ?_
    blk_simp
    rw [after0_9, outs]
    obtain ⟨y0, y1, y2, rfl⟩ : ∃ (a : Fin 1) (b : Fin 576) (d : Fin 768), y = ix3 a b d := ⟨y 0, y 1, y 2, eq_ix3 y⟩
    obtain rfl : y0 = 0 := Subsingleton.elim _ _
    refine (pay5_at _ _ _).trans ((b6 m c t y2 y1).trans ?_)
    blk_ext [idx t]
  exact congrFun e _

/-- The codes a point writes. -/
def codes (c : Dev nD) (t : Fin cfg0.N) (n : Fin 576) : BitVec 32 :=
  (k0_pay6 (F := Ideal) (iblk m c 6 t) (iblk m c 7 t) (iblk m c 8 t) (E m c) (k0_pay3 (F := Ideal) (E m c)) : IVec S1x1x576 32) (ix3 0 0 n)

/-- The code array after the run: at each token the number of the nearest row, the first of them. -/
theorem final10 (c : Dev nD) (i : Fin 16) (t : Fin 576) (K : Fin 8192)
    (hK : FirstLeast (fun R => dist (nrm (tok m c i t)) (nrm (emb m c R))) K) :
    ((dats m 0 c).arrAt 10 (cfgs 0).N : IVec S16x1x576 32) (ix3 i 0 t) = BitVec.ofNat 32 K.val := by
  have e : (dats m 0 c).arrAt 10 (cfgs 0).N = fun x : S16x1x576.Idx =>
      codes m c ⟨(x 0).val, lt_of_lt_of_eq (x 0).isLt N_0.symm⟩ (x 2) := by
    refine (dats m 0 c).arrAt_eq_of_covers 10 _ (by decide +kernel) fun t hf y => ?_
    blk_simp
    rw [after0_10, outs]
    obtain ⟨y0, y1, y2, rfl⟩ : ∃ (a : Fin 1) (b : Fin 1) (d : Fin 576), y = ix3 a b d := ⟨y 0, y 1, y 2, eq_ix3 y⟩
    obtain rfl : y0 = 0 := Subsingleton.elim _ _
    obtain rfl : y1 = 0 := Subsingleton.elim _ _
    show codes m c t y2 = codes m c _ _
    refine congrArg₂ (codes m c) (Fin.ext ?_) (Fin.ext ?_)
    · first | (blk_simp [idx t]; done) | (blk_simp [idx t]; rfl) | (rw [(idx t).2.2.2.2.2]; rfl)
    · first | (blk_simp [idx t]; done) | (blk_simp [idx t]; rfl) | (rw [(idx t).2.2.2.2.2]; rfl)
  refine (congrFun e _).trans ?_
  show codes m c ⟨i.val, lt_of_lt_of_eq i.isLt N_0.symm⟩ t = _
  unfold codes
  rw [pay6_eq]
  refine (cast_at _ t).trans ?_
  refine argMin_at _ t K ?_
  simp only [dists_eq]
  exact hK

end Cert.Vq.Ker
-- ==== Proof.Vq.Match.lean ====
/- The reference's codes and the kernel's are the same numbers. -/
module

public import proofs.«01_k».proof.Proof.Vq.RefVal
public import proofs.«01_k».proof.Proof.Vq.KRun

@[expose] public section

set_option maxRecDepth 16384

noncomputable section

namespace Cert.Vq

open Idealize.ShloMosaic Idealize.ShloMosaic.TcCoe Idealize.SL.Sem

/-- The reference's distance of a token to a row, the token's number split into batch and position. -/
theorem ref_dist (X : FVec Ideal Cert.ReferenceIdeal.S16x768x576 .f32) (W : FVec Ideal Cert.ReferenceIdeal.S64x768 .f32) (a : FVec Ideal Cert.ReferenceIdeal.S64 .f32)
    (W1 : FVec Ideal Cert.ReferenceIdeal.S1024x13 .f32) (a1 : FVec Ideal Cert.ReferenceIdeal.S1024 .f32) (W2 : FVec Ideal Cert.ReferenceIdeal.S1024x1024 .f32)
    (a2 : FVec Ideal Cert.ReferenceIdeal.S1024 .f32) (W3 : FVec Ideal Cert.ReferenceIdeal.S64x1024 .f32) (a3 : FVec Ideal Cert.ReferenceIdeal.S64 .f32)
    (i : Fin 16) (t : Fin 576) (n : Fin 9216) (hn : n.val = i.val * 576 + t.val) (r : Fin 8192) :
    Ref.f_v63 (F := Ideal) (Ref.f_v43 (Ref.f_v5 X W a)) (Ref.f_v48 (Ref.f_v38 W1 a1 W2 a2 W3 a3 Ref.f_v21)) (ix2 n r)
      = dist (nrm (Ker.tokOf X W a i t)) (nrm (Ker.embOf W1 a1 W2 a2 W3 a3 r)) := by
  have hi : (⟨n.val / 576, by omega⟩ : Fin 16) = i := Fin.ext (by show n.val / 576 = i.val; omega)
  have ht : (⟨n.val % 576, by omega⟩ : Fin 576) = t := Fin.ext (by show n.val % 576 = t.val; omega)
  rw [Ref.v63_at, hi, ht]
  refine congrArg₂ dist (funext fun d => ?_) (funext fun d => ?_)
  · rw [Ref.v43_at]
    refine congrArg (fun v => nrm v d) (funext fun e => ?_)
    exact Ref.v5_at X W a i t e
  · rw [Ref.v48_at]
    refine congrArg (fun v => nrm v d) (funext fun e => ?_)
    rw [Ref.v38_at]
    simp only [Ref.v21_at]
    rfl

/-- A distance between normalised vectors is a real number. -/
theorem dist_real {n : ℕ} (u v : Fin n → EReal) : ∃ r : ℝ, dist (nrm u) (nrm v) = (r : EReal) := by
  have hu : nrm u = fun d => (((nrm_real u d).choose : ℝ) : EReal) := funext fun d => (nrm_real u d).choose_spec
  have hv : nrm v = fun d => (((nrm_real v d).choose : ℝ) : EReal) := funext fun d => (nrm_real v d).choose_spec
  rw [hu, hv, dist_coe]
  exact ⟨_, rfl⟩

/-- The reference's code of a token is the number of its nearest row, the first of them. -/
theorem ref_code (X : FVec Ideal Cert.ReferenceIdeal.S16x768x576 .f32) (W : FVec Ideal Cert.ReferenceIdeal.S64x768 .f32) (a : FVec Ideal Cert.ReferenceIdeal.S64 .f32)
    (W1 : FVec Ideal Cert.ReferenceIdeal.S1024x13 .f32) (a1 : FVec Ideal Cert.ReferenceIdeal.S1024 .f32) (W2 : FVec Ideal Cert.ReferenceIdeal.S1024x1024 .f32)
    (a2 : FVec Ideal Cert.ReferenceIdeal.S1024 .f32) (W3 : FVec Ideal Cert.ReferenceIdeal.S64x1024 .f32) (a3 : FVec Ideal Cert.ReferenceIdeal.S64 .f32)
    (i : Fin 16) (t : Fin 576) (K : Fin 8192)
    (hK : FirstLeast (fun R => dist (nrm (Ker.tokOf X W a i t)) (nrm (Ker.embOf W1 a1 W2 a2 W3 a3 R))) K) :
    Ref.f_v86 (F := Ideal) (Ref.f_v78 (Ref.f_v77 (Ref.f_v63 (Ref.f_v43 (Ref.f_v5 X W a)) (Ref.f_v48 (Ref.f_v38 W1 a1 W2 a2 W3 a3 Ref.f_v21))))) (ix2 i t)
      = BitVec.ofNat 32 K.val := by
  rw [Ref.v86_at]
  have hd := ref_dist X W a W1 a1 W2 a2 W3 a3 i t ⟨i.val * 576 + t.val, by omega⟩ rfl
  generalize Ref.f_v63 (F := Ideal) (Ref.f_v43 (Ref.f_v5 X W a)) (Ref.f_v48 (Ref.f_v38 W1 a1 W2 a2 W3 a3 Ref.f_v21)) = s at hd ⊢
  have ho := Ref.v77_order s ⟨i.val * 576 + t.val, by omega⟩ (fun q => (dist_real (Ker.tokOf X W a i t) (Ker.embOf W1 a1 W2 a2 W3 a3 q)).choose)
    fun q => (hd q).trans (dist_real _ _).choose_spec
  refine Ref.v78_at _ _ K ho.1 ⟨fun r => not_lt.1 fun h => ?_, fun r hr => ?_⟩
  · have h' := (ho.2 K r).1 h
    rw [hd, hd] at h'
    exact absurd h' (not_lt.2 (hK.1 r))
  · refine (ho.2 r K).2 ?_
    rw [hd, hd]
    exact hK.2 r hr

end Cert.Vq
-- ==== Proof.Vq.KEnd.lean ====
/- The kernel's run: the result arrays, and what the host line after the region makes of them. -/
module

public import proofs.«01_k».proof.Proof.Vq.KRun

@[expose] public section

set_option maxRecDepth 16384

noncomputable section

namespace Cert.Vq.Ker

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first result array. -/
def outX (c : Dev nD) : FVec Ideal S16x576x768 .f32 := (dats m 0 c).arrAt 9 (cfgs 0).N

/-- The code array the region leaves. -/
def outC (c : Dev nD) : IVec S16x1x576 32 := (dats m 0 c).arrAt 10 (cfgs 0).N

/-- After the region the codes are reshaped. -/
theorem tail_v9 (c : Dev nD) : Pipeline.afterTail₀ cfgs (dats m) 0 (V0 m) [hostOps1] c main_v9
    = shapeCast S16x576 (outC m c) shapeCasts_S16x1x576_S16x576 := by
  have h : Pipeline.withArrays (cfgs 0).spec c (V0 m c) (fun w => (dats m 0 c).arrAt w (cfgs 0).N) (Proc.devRef .tc main_v8_1) = outC m c :=
    Pipeline.withArrays_arr (cfgs 0).spec launch0.win.arr_inj c (V0 m c) (fun w => (dats m 0 c).arrAt w (cfgs 0).N) 10
  rw [← h]
  unfold Pipeline.afterTail₀
  simp only [List.flatten_cons, List.flatten_nil, List.append_nil]
  after_results
  try rfl

/-- After the region the constant is stored. -/
theorem tail_cst (c : Dev nD) : Pipeline.afterTail₀ cfgs (dats m) 0 (V0 m) [hostOps1] c main_cst_0 = constant (F := Ideal) S_ .f32 0x00000000#32 := by
  unfold Pipeline.afterTail₀
  simp only [List.flatten_cons, List.flatten_nil, List.append_nil]
  after_results
  try rfl

/-- The kernel runs, and ends with its results at these contents and its arguments unchanged. -/
theorem run : θ_run defs (onTc (τ := τ) (main (F := Ideal))) ⟨m, fun _ => 0, ρ⟩ fun r => ∀ c : Dev nD,
      r.2.mem ((c.tc : Thread nD τ).loc main_v8_0) = outX m c
      ∧ r.2.mem ((c.tc : Thread nD τ).loc main_v9) = shapeCast S16x576 (outC m c) shapeCasts_S16x1x576_S16x576
      ∧ r.2.mem ((c.tc : Thread nD τ).loc main_cst_0) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h.1 c).1 9,
      ((h.1 c).2 main_v9 (Pipeline.mem_restRefs_of main_v9 (by decide) (by decide))).trans (tail_v9 m c),
      ((h.1 c).2 main_cst_0 (Pipeline.mem_restRefs_of main_cst_0 (by decide) (by decide))).trans (tail_cst m c), h.2 c⟩)
    (θ_run_and (run_main m ρ) (unchanged m ρ))

/-- The reshaped codes read at a token. -/
theorem codes_at (c : Dev nD) (i : Fin 16) (t : Fin 576) :
    shapeCast S16x576 (outC m c) shapeCasts_S16x1x576_S16x576 (ix2 i t) = outC m c (ix3 i 0 t) := by
  generalize outC m c = v
  pointwise!

end Cert.Vq.Ker
-- ==== Proof.Vq.Alg.lean ====
/- The claim that the ideal kernel and the ideal reference compute the same results. -/
module

public import proofs.«01_k».proof.Defs
public import proofs.«01_k».proof.Proof.Vq.Match
public import proofs.«01_k».proof.Proof.Vq.KEnd
public import proofs.«01_k».proof.Proof.Gen.Pre_no_tie

@[expose] public section

set_option maxRecDepth 16384

noncomputable section

namespace Cert.Vq

open Idealize.ShloMosaic Idealize.ShloMosaic.TcCoe Idealize.SL.Sem

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The first result: both programs return the input with its channels last. -/
theorem same_x (h0 : m' ((c.tc : Thread Cert.ReferenceIdeal.nD Cert.ReferenceIdeal.τ).loc Cert.ReferenceIdeal.main_arg0) = m (c.tc.loc Cert.KernelIdeal.main_arg0)) :
    Ref.r_v94 m' c = Ker.outX m c := by
  unfold Ref.r_v94 Ref.r_v0
  rw [h0]
  funext y
  obtain ⟨i, t, k, rfl⟩ : ∃ (i : Fin 16) (t : Fin 576) (k : Fin 768), y = ix3 i t k := ⟨y 0, y 1, y 2, eq_ix3 y⟩
  exact (Ref.v94_at _ _ _ _ _ i t k).trans ((Ref.v0_at _ i t k).trans (Ker.final9 m c i t k).symm)

/-- The second result: both programs return, for each token, the number of the first nearest row. -/
theorem same_code
    (h0 : m' ((c.tc : Thread Cert.ReferenceIdeal.nD Cert.ReferenceIdeal.τ).loc Cert.ReferenceIdeal.main_arg0) = m (c.tc.loc Cert.KernelIdeal.main_arg0))
    (h1 : m' ((c.tc : Thread Cert.ReferenceIdeal.nD Cert.ReferenceIdeal.τ).loc Cert.ReferenceIdeal.main_arg1) = m (c.tc.loc Cert.KernelIdeal.main_arg1))
    (h2 : m' ((c.tc : Thread Cert.ReferenceIdeal.nD Cert.ReferenceIdeal.τ).loc Cert.ReferenceIdeal.main_arg2) = m (c.tc.loc Cert.KernelIdeal.main_arg2))
    (h3 : m' ((c.tc : Thread Cert.ReferenceIdeal.nD Cert.ReferenceIdeal.τ).loc Cert.ReferenceIdeal.main_arg3) = m (c.tc.loc Cert.KernelIdeal.main_arg3))
    (h4 : m' ((c.tc : Thread Cert.ReferenceIdeal.nD Cert.ReferenceIdeal.τ).loc Cert.ReferenceIdeal.main_arg4) = m (c.tc.loc Cert.KernelIdeal.main_arg4))
    (h5 : m' ((c.tc : Thread Cert.ReferenceIdeal.nD Cert.ReferenceIdeal.τ).loc Cert.ReferenceIdeal.main_arg5) = m (c.tc.loc Cert.KernelIdeal.main_arg5))
    (h6 : m' ((c.tc : Thread Cert.ReferenceIdeal.nD Cert.ReferenceIdeal.τ).loc Cert.ReferenceIdeal.main_arg6) = m (c.tc.loc Cert.KernelIdeal.main_arg6))
    (h7 : m' ((c.tc : Thread Cert.ReferenceIdeal.nD Cert.ReferenceIdeal.τ).loc Cert.ReferenceIdeal.main_arg7) = m (c.tc.loc Cert.KernelIdeal.main_arg7))
    (h8 : m' ((c.tc : Thread Cert.ReferenceIdeal.nD Cert.ReferenceIdeal.τ).loc Cert.ReferenceIdeal.main_arg8) = m (c.tc.loc Cert.KernelIdeal.main_arg8)) :
    Ref.r_v86 m' c = shapeCast Cert.KernelIdeal.S16x576 (Ker.outC m c) Cert.KernelIdeal.Gen.shapeCasts_S16x1x576_S16x576 := by
  unfold Ref.r_v86 Ref.r_v78 Ref.r_v77 Ref.r_v63 Ref.r_v43 Ref.r_v5 Ref.r_v48 Ref.r_v38 Ref.r_v21
  rw [h0, h1, h2, h3, h4, h5, h6, h7, h8]
  funext y
  obtain ⟨i, t, rfl⟩ : ∃ (i : Fin 16) (t : Fin 576), y = ix2 i t := ⟨y 0, y 1, eq_ix2 y⟩
  obtain ⟨K, hK⟩ := exists_firstLeast (n := 8191) fun R => dist (nrm (Ker.tok m c i t)) (nrm (Ker.emb m c R))
  exact (ref_code _ _ _ _ _ _ _ _ _ i t K hK).trans ((Ker.codes_at m c i t).trans (Ker.final10 m c i t K hK)).symm

/-- The third result: both programs return the constant zero. -/
theorem same_loss : Ref.r_cst_13 m' c = constant (F := Ideal) Cert.KernelIdeal.S_ .f32 0x00000000#32 := rfl

end Values

/-- From memories that agree on the arguments both programs run and end with equal results. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' _ hagree
  refine ⟨_, _, _, Ker.run m g, (θ_run _ _ _).mono (fun _ h c => ?_) (Ref.run m' g')⟩
  obtain ⟨h0, h1, h2, h3, h4, h5, h6, h7, h8, -, -⟩ := hagree c
  obtain ⟨e0, e1, e2, e⟩ := h c
  exact ⟨e0.trans (same_x m m' c h0), e1.trans (same_code m m' c h0 h1 h2 h3 h4 h5 h6 h7 h8), e2.trans (same_loss m' c), e⟩

/-- The reference runs, leaves its arguments unchanged, and has no semaphore. -/
theorem quiescent_ref : Cert.quiescent_ReferenceIdeal (hReferenceIdeal := Cert.ReferenceIdeal.Gen.facts) := by
  intro m g _
  exact (θ_run _ _ _).mono (fun r h => ⟨fun c => (h c).2.2.2, sem_eq_zero_of_no_sems (by decide) r.2⟩) (Ref.run m g)

end Cert.Vq
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Vq.Alg
public import Idealize.ShloMosaic.Adequacy
public import Idealize.ShloMosaic.Init

@[expose] public section

noncomputable section

namespace Cert.Proof

open Idealize.ShloMosaic Idealize.SL.Sem Cert.Kernel

/-- All the claims: the three programs run and leave their arguments, the ideal kernel is the kernel's own text, and it
    computes the reference's three results. -/
theorem claim : Cert.Claim :=
  ⟨Cert.Kernel.Gen.facts, Cert.KernelIdeal.Gen.facts, Cert.ReferenceIdeal.Gen.facts, Cert.Pre_no_tie.Gen.facts,
    fun m ρ _ => Cert.Kernel.Gen.frame m ρ, fun m ρ _ => Cert.Kernel.Gen.frame m ρ, fun m ρ _ => Cert.KernelIdeal.Gen.frame m ρ,
    Cert.Vq.quiescent_ref, fun m ρ _ => Cert.Vq.quiescent_ref m ρ trivial, trivial, Cert.Vq.algebraic⟩

end Cert.Proof

end
